-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_coords_finite [hPre_coords_finite : Cert.Pre_coords_finite.Facts] (m : (ℓ : Loc Cert.KernelIdeal.nD Cert.KernelIdeal.τ Cert.KernelIdeal.sig) → Buf (Elt Ideal) ℓ) : Prop :=
  ∀ c : Dev Cert.KernelIdeal.nD,
    (Cert.Pre_coords_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_coords_finite [hPre_coords_finite : Cert.Pre_coords_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coords_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_coords_finite [hKernelIdeal : Cert.KernelIdeal.Facts] [hPre_coords_finite : Cert.Pre_coords_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_coords_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_coords_finite [hReferenceIdeal : Cert.ReferenceIdeal.Facts] [hPre_coords_finite : Cert.Pre_coords_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_coords_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_n_pix" .f32 0x33DEE95C#32 ((9633792⁻¹ : ℝ) : EReal)

def algebraic_KernelIdeal_ReferenceIdeal_pre_coords_finite [hKernelIdeal : Cert.KernelIdeal.Facts] [hReferenceIdeal : Cert.ReferenceIdeal.Facts] [hPre_coords_finite : Cert.Pre_coords_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_coords_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_coords_finite : Cert.Pre_coords_finite.Facts),
    quiescent_Kernel (hKernel := hKernel)
    ∧ quiescent_KernelIdeal (hKernelIdeal := hKernelIdeal)
    ∧ quiescent_KernelIdeal_pre_coords_finite (hKernelIdeal := hKernelIdeal) (hPre_coords_finite := hPre_coords_finite)
    ∧ quiescent_ReferenceIdeal (hReferenceIdeal := hReferenceIdeal)
    ∧ quiescent_ReferenceIdeal_pre_coords_finite (hReferenceIdeal := hReferenceIdeal) (hPre_coords_finite := hPre_coords_finite)
    ∧ preserves_Kernel_KernelIdeal
    ∧ algebraic_KernelIdeal_ReferenceIdeal_pre_coords_finite (hKernelIdeal := hKernelIdeal) (hReferenceIdeal := hReferenceIdeal) (hPre_coords_finite := hPre_coords_finite)
-- ==== Pre_coords_finite.lean ====
abbrev S64x3x224x224 : Shape := ⟨4, ![64, 3, 224, 224]⟩
abbrev S64x197x384 : Shape := ⟨3, ![64, 197, 384]⟩
abbrev S512x75264 : Shape := ⟨2, ![512, 75264]⟩
abbrev S512x2 : Shape := ⟨2, ![512, 2]⟩
abbrev S_ : Shape := ⟨0, ![]⟩

class Facts : Prop where
  bcast_S_S512x2 : S_.BroadcastsInDim S512x2 (![] : Fin 0 → Fin S512x2.rank)

variable [Facts]

def fn {F : FTy → Type} [FloatOps F] (main_arg0 : FVec F S64x3x224x224 .f32) (main_arg1 : FVec F S64x3x224x224 .f32) (main_arg2 : FVec F S64x197x384 .f32) (main_arg3 : FVec F S512x75264 .f32) (main_arg4 : FVec F S512x2 .f32) (main_arg5 : FVec F S_ .f32) (main_arg6 : FVec F S_ .f32) : IVec S512x2 1 :=
  let main_v0 : FVec F S512x2 .f32 := Host.absf main_arg4
  let main_cst : FVec F S_ .f32 := constant S_ .f32 0x7F800000#32
  let main_v1 : FVec F S512x2 .f32 := broadcastInDim S512x2 ![] bcast_S_S512x2 main_cst
  let main_v2 : IVec S512x2 1 := cmpf .olt main_v0 main_v1
  main_v2
-- ==== Kernel.lean ====
abbrev S64x3x224x224 : Shape := ⟨4, ![64, 3, 224, 224]⟩
abbrev S64x197x384 : Shape := ⟨3, ![64, 197, 384]⟩
abbrev S512x75264 : Shape := ⟨2, ![512, 75264]⟩
abbrev S512x2 : Shape := ⟨2, ![512, 2]⟩
abbrev S_ : Shape := ⟨0, ![]⟩
abbrev S192x224x224 : Shape := ⟨3, ![192, 224, 224]⟩
abbrev S197x64x384 : Shape := ⟨3, ![197, 64, 384]⟩
abbrev S1 : Shape := ⟨1, ![1]⟩
abbrev S16x224x224 : Shape := ⟨3, ![16, 224, 224]⟩
abbrev S1x16x224x224 : Shape := ⟨4, ![1, 16, 224, 224]⟩
abbrev S1x1x1x1 : Shape := ⟨4, ![1, 1, 1, 1]⟩
abbrev S1x64x384 : Shape := ⟨3, ![1, 64, 384]⟩
abbrev S256x5376 : Shape := ⟨2, ![256, 5376]⟩
abbrev S64x512 : Shape := ⟨2, ![64, 512]⟩
abbrev S64x1 : Shape := ⟨2, ![64, 1]⟩
abbrev S512x1 : Shape := ⟨2, ![512, 1]⟩
abbrev S64x384 : Shape := ⟨2, ![64, 384]⟩
abbrev S64x5376 : Shape := ⟨2, ![64, 5376]⟩
abbrev S64x256 : Shape := ⟨2, ![64, 256]⟩
abbrev S64 : Shape := ⟨1, ![64]⟩
abbrev S256 : Shape := ⟨1, ![256]⟩
abbrev S256x1 : Shape := ⟨2, ![256, 1]⟩
abbrev S512x512 : Shape := ⟨2, ![512, 512]⟩
abbrev S1x512 : Shape := ⟨2, ![1, 512]⟩
abbrev S64x2 : Shape := ⟨2, ![64, 2]⟩
abbrev S1x2 : Shape := ⟨2, ![1, 2]⟩
abbrev S1x64x512 : Shape := ⟨3, ![1, 64, 512]⟩
abbrev S1x1x1 : Shape := ⟨3, ![1, 1, 1]⟩

abbrev nBuf : Space → Nat
  | .hbm => 19
  | .vmem => 40
  | .smem => 8
  | _ => 0

abbrev bufTy : (tb : Table) → Fin (tcTables nBuf tb) → BufTy
  | .hbm, ⟨0, _⟩ => ⟨S64x3x224x224, .f32⟩
  | .hbm, ⟨1, _⟩ => ⟨S64x3x224x224, .f32⟩
  | .hbm, ⟨2, _⟩ => ⟨S64x197x384, .f32⟩
  | .hbm, ⟨3, _⟩ => ⟨S512x75264, .f32⟩
  | .hbm, ⟨4, _⟩ => ⟨S512x2, .f32⟩
  | .hbm, ⟨5, _⟩ => ⟨S_, .f32⟩
  | .hbm, ⟨6, _⟩ => ⟨S_, .f32⟩
  | .hbm, ⟨7, _⟩ => ⟨S192x224x224, .f32⟩
  | .hbm, ⟨8, _⟩ => ⟨S192x224x224, .f32⟩
  | .hbm, ⟨9, _⟩ => ⟨S197x64x384, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S16x224x224, .f32⟩
  | .local _ .vmem, ⟨1, _⟩ => ⟨S16x224x224, .f32⟩
  | .local _ .vmem, ⟨2, _⟩ => ⟨S16x224x224, .f32⟩
  | .local _ .vmem, ⟨3, _⟩ => ⟨S16x224x224, .f32⟩
  | .local _ .vmem, ⟨4, _⟩ => ⟨S1x64x384, .f32⟩
  | .local _ .vmem, ⟨5, _⟩ => ⟨S1x64x384, .f32⟩
  | .local _ .vmem, ⟨6, _⟩ => ⟨S1x64x384, .f32⟩
  | .local _ .vmem, ⟨7, _⟩ => ⟨S1x64x384, .f32⟩
  | .local _ .vmem, ⟨8, _⟩ => ⟨S1x64x384, .f32⟩
  | .local _ .vmem, ⟨9, _⟩ => ⟨S1x64x384, .f32⟩
  | .local _ .vmem, ⟨10, _⟩ => ⟨S1x64x384, .f32⟩
  | .local _ .vmem, ⟨11, _⟩ => ⟨S1x64x384, .f32⟩
  | .local _ .vmem, ⟨12, _⟩ => ⟨S1x64x384, .f32⟩
  | .local _ .vmem, ⟨13, _⟩ => ⟨S1x64x384, .f32⟩
  | .local _ .vmem, ⟨14, _⟩ => ⟨S1x64x384, .f32⟩
  | .local _ .vmem, ⟨15, _⟩ => ⟨S1x64x384, .f32⟩
  | .local _ .vmem, ⟨16, _⟩ => ⟨S1x64x384, .f32⟩
  | .local _ .vmem, ⟨17, _⟩ => ⟨S1x64x384, .f32⟩
  | .local _ .vmem, ⟨18, _⟩ => ⟨S1x64x384, .f32⟩
  | .local _ .vmem, ⟨19, _⟩ => ⟨S1x64x384, .f32⟩
  | .local _ .vmem, ⟨20, _⟩ => ⟨S1x64x384, .f32⟩
  | .local _ .vmem, ⟨21, _⟩ => ⟨S1x64x384, .f32⟩
  | .local _ .vmem, ⟨22, _⟩ => ⟨S1x64x384, .f32⟩
  | .local _ .vmem, ⟨23, _⟩ => ⟨S1x64x384, .f32⟩
  | .local _ .vmem, ⟨24, _⟩ => ⟨S1x64x384, .f32⟩
  | .local _ .vmem, ⟨25, _⟩ => ⟨S1x64x384, .f32⟩
  | .local _ .vmem, ⟨26, _⟩ => ⟨S1x64x384, .f32⟩
  | .local _ .vmem, ⟨27, _⟩ => ⟨S1x64x384, .f32⟩
  | .local _ .vmem, ⟨28, _⟩ => ⟨S1x64x384, .f32⟩
  | .local _ .vmem, ⟨29, _⟩ => ⟨S1x64x384, .f32⟩
  | .local _ .vmem, ⟨30, _⟩ => ⟨S1x64x384, .f32⟩
  | .local _ .vmem, ⟨31, _⟩ => ⟨S1x64x384, .f32⟩
  | .local _ .vmem, ⟨32, _⟩ => ⟨S256x5376, .f32⟩
  | .local _ .vmem, ⟨33, _⟩ => ⟨S256x5376, .f32⟩
  | .local _ .vmem, ⟨34, _⟩ => ⟨S256x5376, .f32⟩
  | .local _ .vmem, ⟨35, _⟩ => ⟨S256x5376, .f32⟩
  | .local _ .vmem, ⟨36, _⟩ => ⟨S512x2, .f32⟩
  | .local _ .vmem, ⟨37, _⟩ => ⟨S64x512, .f32⟩
  | .local _ .vmem, ⟨38, _⟩ => ⟨S64x1, .f32⟩
  | .local _ .vmem, ⟨39, _⟩ => ⟨S512x1, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | .local _ .smem, ⟨6, _⟩ => ⟨S1, .f32⟩
  | .local _ .smem, ⟨7, _⟩ => ⟨S1, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc1_stg14_0 : Ref sig .tc := ⟨.vmem, 32, rfl⟩
abbrev cc1_stg14_1 : Ref sig .tc := ⟨.vmem, 33, rfl⟩
abbrev cc1_stg15_0 : Ref sig .tc := ⟨.vmem, 34, rfl⟩
abbrev cc1_stg15_1 : Ref sig .tc := ⟨.vmem, 35, rfl⟩
abbrev cc1_stg16_0 : Ref sig .tc := ⟨.vmem, 36, rfl⟩
abbrev cc1_scratch0 : Ref sig .tc := ⟨.vmem, 37, rfl⟩
abbrev cc1_scratch1 : Ref sig .tc := ⟨.vmem, 38, rfl⟩
abbrev cc1_scratch2 : Ref sig .tc := ⟨.vmem, 39, rfl⟩
abbrev cc0_stg2_0 : Ref sig .tc := ⟨.smem, 0, rfl⟩
abbrev cc0_scratch0 : Ref sig .tc := ⟨.smem, 1, rfl⟩
abbrev cc1_stg17_0 : Ref sig .tc := ⟨.smem, 2, rfl⟩
abbrev cc1_stg18_0 : Ref sig .tc := ⟨.smem, 3, rfl⟩
abbrev cc1_stg19_0 : Ref sig .tc := ⟨.smem, 4, rfl⟩
abbrev cc1_stg20_0 : Ref sig .tc := ⟨.smem, 5, rfl⟩
abbrev cc1_stg21_0 : Ref sig .tc := ⟨.smem, 6, rfl⟩
abbrev cc1_stg22_0 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc1_sem13_0 : DmaSem sig := 31
abbrev cc1_sem13_1 : DmaSem sig := 32
abbrev cc1_sem14_0 : DmaSem sig := 33
abbrev cc1_sem14_1 : DmaSem sig := 34
abbrev cc1_sem15_0 : DmaSem sig := 35
abbrev cc1_sem15_1 : DmaSem sig := 36
abbrev cc1_sem16_0 : DmaSem sig := 37
abbrev cc1_sem17_0 : DmaSem sig := 38
abbrev cc1_sem18_0 : DmaSem sig := 39
abbrev cc1_sem19_0 : DmaSem sig := 40
abbrev cc1_sem20_0 : DmaSem sig := 41
abbrev cc1_sem21_0 : DmaSem sig := 42
abbrev cc1_sem22_0 : DmaSem sig := 43

abbrev nD : Nat := 1
abbrev τ : Topo := Topo.v7x

variable {F : FTy → Type} [FloatOps F]

abbrev grid0 : Pipeline.Grid := ⟨1, ![12], ![false]⟩

def k0_cond3 (i : grid0.Coords) : BitVec 1 :=
  let arg0 : BitVec 32 := BitVec.ofNat 32 (i 0).val
  let c11_i32 : BitVec 32 := 11#32
  let v16 : BitVec 1 := Scalar.cmpi .eq arg0 c11_i32
  let v17 : BitVec 32 := Scalar.extui v16
  let c0_i32_8 : BitVec 32 := 0#32
  let v18 : BitVec 1 := Scalar.cmpi .ne v17 c0_i32_8
  v18

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S16x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![14], ![false]⟩

def k1_cond3 (i : grid1.Coords) : BitVec 1 :=
  let arg0 : BitVec 32 := BitVec.ofNat 32 (i 0).val
  let c13_i32 : BitVec 32 := 13#32
  let v50 : BitVec 1 := Scalar.cmpi .eq arg0 c13_i32
  let v51 : BitVec 32 := Scalar.extui v50
  let c0_i32_52 : BitVec 32 := 0#32
  let v52 : BitVec 1 := Scalar.cmpi .ne v51 c0_i32_52
  v52

def cc1_transform_0 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![v2.toNat, c0_i32_0.toNat, c0_i32_1.toNat]

def cc1_transform_1 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c1_i32_0 : BitVec 32 := 1#32
  let v2 : BitVec 32 := Scalar.addi v1 c1_i32_0
  let c0_i32 : BitVec 32 := 0#32
  let c0_i32_1 : BitVec 32 := 0#32
  let c0_i32_2 : BitVec 32 := 0#32
  ![v2.toNat, c0_i32.toNat, c0_i32_1.toNat]

def cc1_transform_2 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c2_i32 : BitVec 32 := 2#32
  let v2 : BitVec 32 := Scalar.addi v1 c2_i32
  let c0_i32 : BitVec 32 := 0#32
  let c0_i32_0 : BitVec 32 := 0#32
  let c0_i32_1 : BitVec 32 := 0#32
  ![v2.toNat, c0_i32.toNat, c0_i32_0.toNat]

def cc1_transform_3 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c3_i32 : BitVec 32 := 3#32
  let v2 : BitVec 32 := Scalar.addi v1 c3_i32
  let c0_i32 : BitVec 32 := 0#32
  let c0_i32_0 : BitVec 32 := 0#32
  let c0_i32_1 : BitVec 32 := 0#32
  ![v2.toNat, c0_i32.toNat, c0_i32_0.toNat]

def cc1_transform_4 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c4_i32 : BitVec 32 := 4#32
  let v2 : BitVec 32 := Scalar.addi v1 c4_i32
  let c0_i32 : BitVec 32 := 0#32
  let c0_i32_0 : BitVec 32 := 0#32
  let c0_i32_1 : BitVec 32 := 0#32
  ![v2.toNat, c0_i32.toNat, c0_i32_0.toNat]

def cc1_transform_5 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c5_i32 : BitVec 32 := 5#32
  let v2 : BitVec 32 := Scalar.addi v1 c5_i32
  let c0_i32 : BitVec 32 := 0#32
  let c0_i32_0 : BitVec 32 := 0#32
  let c0_i32_1 : BitVec 32 := 0#32
  ![v2.toNat, c0_i32.toNat, c0_i32_0.toNat]

def cc1_transform_6 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c6_i32 : BitVec 32 := 6#32
  let v2 : BitVec 32 := Scalar.addi v1 c6_i32
  let c0_i32 : BitVec 32 := 0#32
  let c0_i32_0 : BitVec 32 := 0#32
  let c0_i32_1 : BitVec 32 := 0#32
  ![v2.toNat, c0_i32.toNat, c0_i32_0.toNat]

def cc1_transform_7 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c7_i32 : BitVec 32 := 7#32
  let v2 : BitVec 32 := Scalar.addi v1 c7_i32
  let c0_i32 : BitVec 32 := 0#32
  let c0_i32_0 : BitVec 32 := 0#32
  let c0_i32_1 : BitVec 32 := 0#32
  ![v2.toNat, c0_i32.toNat, c0_i32_0.toNat]

def cc1_transform_8 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c8_i32 : BitVec 32 := 8#32
  let v2 : BitVec 32 := Scalar.addi v1 c8_i32
  let c0_i32 : BitVec 32 := 0#32
  let c0_i32_0 : BitVec 32 := 0#32
  let c0_i32_1 : BitVec 32 := 0#32
  ![v2.toNat, c0_i32.toNat, c0_i32_0.toNat]

def cc1_transform_9 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c9_i32 : BitVec 32 := 9#32
  let v2 : BitVec 32 := Scalar.addi v1 c9_i32
  let c0_i32 : BitVec 32 := 0#32
  let c0_i32_0 : BitVec 32 := 0#32
  let c0_i32_1 : BitVec 32 := 0#32
  ![v2.toNat, c0_i32.toNat, c0_i32_0.toNat]

def cc1_transform_10 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c10_i32 : BitVec 32 := 10#32
  let v2 : BitVec 32 := Scalar.addi v1 c10_i32
  let c0_i32 : BitVec 32 := 0#32
  let c0_i32_0 : BitVec 32 := 0#32
  let c0_i32_1 : BitVec 32 := 0#32
  ![v2.toNat, c0_i32.toNat, c0_i32_0.toNat]

def cc1_transform_11 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c11_i32 : BitVec 32 := 11#32
  let v2 : BitVec 32 := Scalar.addi v1 c11_i32
  let c0_i32 : BitVec 32 := 0#32
  let c0_i32_0 : BitVec 32 := 0#32
  let c0_i32_1 : BitVec 32 := 0#32
  ![v2.toNat, c0_i32.toNat, c0_i32_0.toNat]

def cc1_transform_12 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c12_i32 : BitVec 32 := 12#32
  let v2 : BitVec 32 := Scalar.addi v1 c12_i32
  let c0_i32 : BitVec 32 := 0#32
  let c0_i32_0 : BitVec 32 := 0#32
  let c0_i32_1 : BitVec 32 := 0#32
  ![v2.toNat, c0_i32.toNat, c0_i32_0.toNat]

def cc1_transform_13 (i : grid1.Coords) : Fin 3 → Nat :=
  let arg0 : BitVec 32 := BitVec.ofNat 32 (i 0).val
  let c14_i32 : BitVec 32 := 14#32
  let v0 : BitVec 32 := Scalar.muli c14_i32 arg0
  let c1_i32 : BitVec 32 := 1#32
  let v1 : BitVec 32 := Scalar.addi c1_i32 v0
  let c13_i32 : BitVec 32 := 13#32
  let v2 : BitVec 32 := Scalar.addi v1 c13_i32
  let c0_i32 : BitVec 32 := 0#32
  let c0_i32_0 : BitVec 32 := 0#32
  let c0_i32_1 : BitVec 32 := 0#32
  ![v2.toNat, c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let c1_i32 : BitVec 32 := 1#32
  let c0_i32 : BitVec 32 := 0#32
  ![c1_i32.toNat, arg0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_18 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_19 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_20 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_21 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_22 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S1x64x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x64x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x64x384 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x64x384 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x64x384 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x64x384 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x64x384 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x5376 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x5376 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S512x2 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .smem S1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .smem S1 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .smem S1 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .smem S1 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .smem S1 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .smem S1 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]
-- ==== KernelIdeal.lean ====
variable {F : FTy → Type} [FloatOps F] [Named F]
def κ : String → Option EReal := fun
  | "inv_n_pix" => some ((9633792⁻¹ : ℝ) : EReal)
  | _ => none
-- ==== ReferenceIdeal.lean ====
abbrev S64x3x224x224 : Shape := ⟨4, ![64, 3, 224, 224]⟩
abbrev S64x197x384 : Shape := ⟨3, ![64, 197, 384]⟩
abbrev S512x75264 : Shape := ⟨2, ![512, 75264]⟩
abbrev S512x2 : Shape := ⟨2, ![512, 2]⟩
abbrev S_ : Shape := ⟨0, ![]⟩
abbrev S64x196x384 : Shape := ⟨3, ![64, 196, 384]⟩
abbrev S64x75264 : Shape := ⟨2, ![64, 75264]⟩
abbrev S64 : Shape := ⟨1, ![64]⟩
abbrev S64x1 : Shape := ⟨2, ![64, 1]⟩
abbrev S512 : Shape := ⟨1, ![512]⟩
abbrev S512x1 : Shape := ⟨2, ![512, 1]⟩
abbrev S75264x512 : Shape := ⟨2, ![75264, 512]⟩
abbrev S64x512 : Shape := ⟨2, ![64, 512]⟩
abbrev S64x2 : Shape := ⟨2, ![64, 2]⟩
abbrev S64x1x2 : Shape := ⟨3, ![64, 1, 2]⟩
abbrev S1x512x2 : Shape := ⟨3, ![1, 512, 2]⟩
abbrev S64x512x2 : Shape := ⟨3, ![64, 512, 2]⟩

abbrev nBuf : Space → Nat
  | .hbm => 78
  | .vmem => 0
  | .smem => 0
  | _ => 0

abbrev bufTy : (tb : Table) → Fin (tcTables nBuf tb) → BufTy
  | .hbm, ⟨0, _⟩ => ⟨S64x3x224x224, .f32⟩
  | .hbm, ⟨1, _⟩ => ⟨S64x3x224x224, .f32⟩
  | .hbm, ⟨2, _⟩ => ⟨S64x197x384, .f32⟩
  | .hbm, ⟨3, _⟩ => ⟨S512x75264, .f32⟩
  | .hbm, ⟨4, _⟩ => ⟨S512x2, .f32⟩
  | .hbm, ⟨5, _⟩ => ⟨S_, .f32⟩
  | .hbm, ⟨6, _⟩ => ⟨S_, .f32⟩
  | .hbm, ⟨7, _⟩ => ⟨S64x3x224x224, .f32⟩
  | .hbm, ⟨8, _⟩ => ⟨S64x3x224x224, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64x196x384, .f32⟩
  | .hbm, ⟨14, _⟩ => ⟨S64x75264, .f32⟩
  | .hbm, ⟨15, _⟩ => ⟨S64x75264, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S64x1, .f32⟩
  | .hbm, ⟨20, _⟩ => ⟨S_, .f32⟩
  | .hbm, ⟨21, _⟩ => ⟨S64x1, .f32⟩
  | .hbm, ⟨22, _⟩ => ⟨S64x1, .f32⟩
  | .hbm, ⟨23, _⟩ => ⟨S64x75264, .f32⟩
  | .hbm, ⟨24, _⟩ => ⟨S64x75264, .f32⟩
  | .hbm, ⟨25, _⟩ => ⟨S512x75264, .f32⟩
  | .hbm, ⟨26, _⟩ => ⟨S_, .f32⟩
  | .hbm, ⟨27, _⟩ => ⟨S512, .f32⟩
  | .hbm, ⟨28, _⟩ => ⟨S512x1, .f32⟩
  | .hbm, ⟨29, _⟩ => ⟨S512x1, .f32⟩
  | .hbm, ⟨30, _⟩ => ⟨S_, .f32⟩
  | .hbm, ⟨31, _⟩ => ⟨S512x1, .f32⟩
  | .hbm, ⟨32, _⟩ => ⟨S512x1, .f32⟩
  | .hbm, ⟨33, _⟩ => ⟨S512x75264, .f32⟩
  | .hbm, ⟨34, _⟩ => ⟨S512x75264, .f32⟩
  | .hbm, ⟨35, _⟩ => ⟨S75264x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | .hbm, ⟨40, _⟩ => ⟨S64x512, .i32⟩
  | .hbm, ⟨41, _⟩ => ⟨S_, .f32⟩
  | .hbm, ⟨42, _⟩ => ⟨S_, .i32⟩
  | .hbm, ⟨43, _⟩ => ⟨S64, .f32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i1⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S64, .i32⟩
  | .hbm, ⟨52, _⟩ => ⟨S64x1, .i32⟩
  | .hbm, ⟨53, _⟩ => ⟨S64x2, .f32⟩
  | .hbm, ⟨54, _⟩ => ⟨S64x1x2, .f32⟩
  | .hbm, ⟨55, _⟩ => ⟨S1x512x2, .f32⟩
  | .hbm, ⟨56, _⟩ => ⟨S64x512x2, .f32⟩
  | .hbm, ⟨57, _⟩ => ⟨S64x512x2, .f32⟩
  | .hbm, ⟨58, _⟩ => ⟨S64x512x2, .f32⟩
  | .hbm, ⟨59, _⟩ => ⟨S64x512x2, .f32⟩
  | .hbm, ⟨60, _⟩ => ⟨S_, .f32⟩
  | .hbm, ⟨61, _⟩ => ⟨S64x512, .f32⟩
  | .hbm, ⟨62, _⟩ => ⟨S64x512, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S64x512, .f32⟩
  | .hbm, ⟨67, _⟩ => ⟨S64x512, .f32⟩
  | .hbm, ⟨68, _⟩ => ⟨S64x512, .f32⟩
  | .hbm, ⟨69, _⟩ => ⟨S64x512, .f32⟩
  | .hbm, ⟨70, _⟩ => ⟨S_, .f32⟩
  | .hbm, ⟨71, _⟩ => ⟨S64, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_call2_v0 : Ref sig .tc := ⟨.hbm, 40, rfl⟩
abbrev main_call2_cst : Ref sig .tc := ⟨.hbm, 41, rfl⟩
abbrev main_call2_c : Ref sig .tc := ⟨.hbm, 42, rfl⟩
abbrev main_call2_v1_0 : Ref sig .tc := ⟨.hbm, 43, rfl⟩
abbrev main_v20 : Ref sig .tc := ⟨.hbm, 44, rfl⟩
abbrev main_c : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]
-- ==== Proof.Mse.lean ====
/- The first call of the kernel (the mean squared error), on any whole staging buffers: when its three conditionals are
   taken, and what one run of the body leaves in the accumulator and in the result. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Som

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The conditionals, by the position of the point -/

/-- The condition of the body's first conditional: this is the first point. -/
abbrev mseFirst (i : grid0.Coords) : Prop :=
  Scalar.cmpi .ne (Scalar.extui (Scalar.cmpi .eq (BitVec.ofNat 32 (i 0).val) 0#32)) 0#32 = 1#1
/-- The condition of the second: this is a later point. -/
abbrev mseLater (i : grid0.Coords) : Prop :=
  Scalar.cmpi .ne (Scalar.extui (Scalar.cmpi .sgt (BitVec.ofNat 32 (i 0).val) 0#32)) 0#32 = 1#1
/-- The condition of the third: this is the last point. -/
abbrev mseLast (i : grid0.Coords) : Prop := k0_cond3 i = 1#1

theorem mseFirst_iff : ∀ t : Fin cfg0.N, mseFirst (grid0.coords t) ↔ t.val = 0 :=
  (by decide +kernel : ∀ t : Fin grid0.N, mseFirst (grid0.coords t) ↔ t.val = 0)
theorem mseLater_iff : ∀ t : Fin cfg0.N, mseLater (grid0.coords t) ↔ t.val ≠ 0 :=
  (by decide +kernel : ∀ t : Fin grid0.N, mseLater (grid0.coords t) ↔ t.val ≠ 0)
theorem mseLast_iff : ∀ t : Fin cfg0.N, mseLast (grid0.coords t) ↔ t.val = 11 :=
  (by decide +kernel : ∀ t : Fin grid0.N, mseLast (grid0.coords t) ↔ t.val = 11)

/-! ## One store over a whole buffer -/

/-- A buffer written once through the rectangle that is all of it holds what was written. -/
theorem read_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, by
    subst h; show y ∈ (Rect.whole S).set; rw [Rect.set_whole]; exact Finset.mem_univ y⟩), View.canon_unit_zero h]

/-- A load of a whole buffer reads what the buffer holds. -/
theorem load_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld]; exact View.ld_unit_zero (S := S) h inb _

theorem zero1 : (![0] : Fin 1 → Nat) = fun _ => 0 := by decide
theorem zero2 : (![0, 0] : Fin 2 → Nat) = fun _ => 0 := by decide
theorem zero3 : (![0, 0, 0] : Fin 3 → Nat) = fun _ => 0 := by decide

/-! ## One run of the body -/

section Body

variable (c : Dev nD) (i : grid0.Coords)
  (arg1 : Memref sig .tc .vmem S16x224x224 .f32) (harg1 : arg1.IsWhole)
  (arg2 : Memref sig .tc .vmem S16x224x224 .f32) (harg2 : arg2.IsWhole)
  (arg3 : Memref sig .tc .smem S1 .f32) (harg3 : arg3.IsWhole)
  (arg4 : Memref sig .tc .smem S1 .f32) (harg4 : arg4.IsWhole)
  (x0 x1 : Vec F S16x224x224 .f32)

set_option maxHeartbeats 1000000 in
/-- At the first point the accumulator is set to the point's own sum; the result is left alone. -/
theorem mse_first (h1 : mseFirst i) (h2 : ¬ mseLater i) (h3 : ¬ mseLast i) (r : Vec F S1 .f32) (E : Set ℕ) (K : PUnit → sProp 𝕄) :
    iprop(owns (c : Thread nD τ) arg1 fullShare x0 ∗ owns (c : Thread nD τ) arg2 fullShare x1
        ∗ owns (c : Thread nD τ) arg3 fullShare r ∗ (∃ d, owns (c : Thread nD τ) arg4 fullShare d)
        ∗ (iprop(owns (c : Thread nD τ) arg1 fullShare x0 ∗ owns (c : Thread nD τ) arg2 fullShare x1
            ∗ owns (c : Thread nD τ) arg3 fullShare r
            ∗ owns (c : Thread nD τ) arg4 fullShare (fun _ => k0_pay1 x0 x1)) -∗ K ⟨⟩))
      ⊢ wp frame (wpE (defs₀ (F := F)) Variants.none c none) E (cc0__mse_body i arg1 harg1 arg2 harg2 arg3 harg3 arg4 harg4) K := by
  simp only [cc0__mse_body_eq_skeleton]; unfold cc0__mse_body_skel
  unfold owns
  iintro ⟨⟨%f0, %hf0, H0⟩, ⟨%f1, %hf1, H1⟩, ⟨%f2, %hf2, H2⟩, ⟨%d3, %f3, -, H3⟩, Hk⟩
  subst hf0 hf1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact H3
  ipureintro; sl_unfold_words
  refine (read_whole_store _ _ zero1 _ _).trans ?_
  rw [load_whole (S := S16x224x224) arg1.view f0 zero3, load_whole (S := S16x224x224) arg2.view f1 zero3]
  rfl

set_option maxHeartbeats 1000000 in
/-- At a point that is neither first nor last the accumulator gains the point's sum; the result is left alone. -/
theorem mse_middle (h1 : ¬ mseFirst i) (h2 : mseLater i) (h3 : ¬ mseLast i) (r : Vec F S1 .f32) (a : F .f32) (E : Set ℕ) (K : PUnit → sProp 𝕄) :
    iprop(owns (c : Thread nD τ) arg1 fullShare x0 ∗ owns (c : Thread nD τ) arg2 fullShare x1
        ∗ owns (c : Thread nD τ) arg3 fullShare r ∗ owns (c : Thread nD τ) arg4 fullShare (fun _ => a)
        ∗ (iprop(owns (c : Thread nD τ) arg1 fullShare x0 ∗ owns (c : Thread nD τ) arg2 fullShare x1
            ∗ owns (c : Thread nD τ) arg3 fullShare r
            ∗ owns (c : Thread nD τ) arg4 fullShare (fun _ => k0_pay2 x0 x1 a)) -∗ K ⟨⟩))
      ⊢ wp frame (wpE (defs₀ (F := F)) Variants.none c none) E (cc0__mse_body i arg1 harg1 arg2 harg2 arg3 harg3 arg4 harg4) K := by
  simp only [cc0__mse_body_eq_skeleton]; unfold cc0__mse_body_skel
  unfold owns
  iintro ⟨⟨%f0, %hf0, H0⟩, ⟨%f1, %hf1, H1⟩, ⟨%f2, %hf2, H2⟩, ⟨%f3, %hf3, H3⟩, Hk⟩
  subst hf0 hf1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  iexists _; isplitr
  swap; · iexact H3
  ipureintro; sl_unfold_words
  refine (read_whole_store _ _ zero1 _ _).trans ?_
  rw [load_whole (S := S16x224x224) arg1.view f0 zero3, load_whole (S := S16x224x224) arg2.view f1 zero3,
      load_whole (S := S1) arg4.view f3 zero1, hf3]
  rfl

set_option maxHeartbeats 1000000 in
/-- At the last point the accumulator gains the point's sum and the result is the accumulator, scaled. -/
theorem mse_last (h1 : ¬ mseFirst i) (h2 : mseLater i) (h3 : mseLast i) (a : F .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare (fun _ => a)
        ∗ (iprop(owns (c : Thread nD τ) arg1 fullShare x0 ∗ owns (c : Thread nD τ) arg2 fullShare x1
            ∗ owns (c : Thread nD τ) arg3 fullShare (fun _ => k0_pay3 (k0_pay2 x0 x1 a))
            ∗ owns (c : Thread nD τ) arg4 fullShare (fun _ => k0_pay2 x0 x1 a)) -∗ K ⟨⟩))
      ⊢ wp frame (wpE (defs₀ (F := F)) Variants.none c none) E (cc0__mse_body i arg1 harg1 arg2 harg2 arg3 harg3 arg4 harg4) K := by
  simp only [cc0__mse_body_eq_skeleton]; unfold cc0__mse_body_skel
  unfold owns
  iintro ⟨⟨%f0, %hf0, H0⟩, ⟨%f1, %hf1, H1⟩, ⟨%d2, %f2, -, H2⟩, ⟨%f3, %hf3, H3⟩, Hk⟩
  subst hf0 hf1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; sl_unfold_words
    refine (read_whole_store _ _ zero1 _ _).trans ?_
    rw [load_whole (S := S16x224x224) arg1.view f0 zero3, load_whole (S := S16x224x224) arg2.view f1 zero3,
      load_whole (S := S1) arg4.view f3 zero1, hf3]
    rfl
  iexists _; isplitr
  swap; · iexact H3
  ipureintro; sl_unfold_words
  refine (read_whole_store _ _ zero1 _ _).trans ?_
  rw [load_whole (S := S16x224x224) arg1.view f0 zero3, load_whole (S := S16x224x224) arg2.view f1 zero3,
      load_whole (S := S1) arg4.view f3 zero1, hf3]
  rfl

end Body

/-! ## The region, entered with the buffers at `V` -/

-- the buffers' contents when the region is entered
variable (V : (c : Dev nD) → (b : Ref sig .tc) → Buf (Elt F) ((c : Thread nD τ).loc b))

/-- The block of window `w` at point `t`, read off the window's array. -/
def mseBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: the points' sums added from the first one on. -/
def mseAcc (c : Dev nD) : (n : ℕ) → n < cfg0.N → F .f32
  | 0, h => k0_pay1 (mseBlk V c 0 ⟨0, h⟩) (mseBlk V c 1 ⟨0, h⟩)
  | n + 1, h => k0_pay2 (mseBlk V c 0 ⟨n + 1, h⟩) (mseBlk V c 1 ⟨n + 1, h⟩) (mseAcc c n (Nat.lt_of_succ_lt h))

theorem mseAcc_zero (c : Dev nD) (t : Fin cfg0.N) (h : t.val = 0) :
    mseAcc V c t.val t.isLt = k0_pay1 (mseBlk V c 0 t) (mseBlk V c 1 t) := by
  obtain ⟨n, hn⟩ := t; simp only at h; subst h; rfl
theorem mseAcc_pos (c : Dev nD) (t : Fin cfg0.N) (h : t.val ≠ 0) :
    mseAcc V c t.val t.isLt = k0_pay2 (mseBlk V c 0 t) (mseBlk V c 1 t) (mseAcc V c (t.val - 1) (Nat.lt_of_le_of_lt (Nat.sub_le _ _) t.isLt)) := by
  obtain ⟨n, hn⟩ := t
  cases n with
  | zero => exact absurd rfl h
  | succ n => rfl

/-- The accumulator's buffer, whole. -/
abbrev mseScr : Memref sig .tc .smem S1 .f32 := Memref.whole cc0_scratch0

/-- What is kept beside the staging buffers before position `n`: before the first point the accumulator at anything, afterwards
    at the sum so far; the program's other scoped buffers at anything; the generator register at some state. -/
def msePhi (c : Dev nD) : (n : ℕ) → n ≤ cfg0.N → sProp 𝕄
  | 0, _ => Pipeline.ΦA spec0 c
  | n + 1, h => iprop((owns (c : Thread nD τ) mseScr fullShare (fun _ => mseAcc V c n h)
      ∗ Pipeline.scopedRestBut (Ix := Unit) (Name := ℕ) (U := UR sig nD τ) (Lvl := ℕ) (Val := Elt F) spec0 c [cc0_scratch0]) ∗ (∃ r, prngReg c r))

theorem msePhi_zero (c : Dev nD) (n : ℕ) (h : n ≤ cfg0.N) (hz : n = 0) : msePhi V c n h = iprop(((∃ d, owns (c : Thread nD τ) mseScr fullShare d)
      ∗ Pipeline.scopedRestBut (Ix := Unit) (Name := ℕ) (U := UR sig nD τ) (Lvl := ℕ) (Val := Elt F) spec0 c [cc0_scratch0]) ∗ (∃ r, prngReg c r)) := by
  subst hz; unfold msePhi Pipeline.ΦA; rw [scopedRest0_split]; simp only [mseScr, owns_whole]; try rfl
theorem msePhi_pos (c : Dev nD) (n : ℕ) (h : n ≤ cfg0.N) (hz : n ≠ 0) :
    msePhi V c n h = iprop((owns (c : Thread nD τ) mseScr fullShare (fun _ => mseAcc V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The region's data: the arrays as entered; after each point the inputs' buffers at their blocks and the result's at the
    accumulator scaled (it is only written, and only written back, at the last point). -/
def mseDat (c : Dev nD) : Dat τ (Elt F) Unit ℕ (UR sig nD τ) ℕ cfg0 c where
  A w := V c (Pipeline.arrRef spec0 w)
  after w t := match w with
    | ⟨0, _⟩ => mseBlk V c 0 t
    | ⟨1, _⟩ => mseBlk V c 1 t
    | ⟨2, _⟩ => fun _ => k0_pay3 (mseAcc V c t.val t.isLt)
  Φ t := msePhi V c t.val (Nat.le_of_lt_succ t.isLt)
  q w := Pipeline.shareOf spec0 w
  owed _ := 0

theorem mseDat_A (c : Dev nD) (w : Fin cfg0.W) : (mseDat V c).A w = V c (Pipeline.arrRef spec0 w) := by dsimp only [mseDat]
theorem mse_after0 (c : Dev nD) (t : Fin cfg0.N) : (mseDat V c).after 0 t = mseBlk V c 0 t := by dsimp only [mseDat]
theorem mse_after1 (c : Dev nD) (t : Fin cfg0.N) : (mseDat V c).after 1 t = mseBlk V c 1 t := by dsimp only [mseDat]
theorem mse_after2 (c : Dev nD) (t : Fin cfg0.N) : (mseDat V c).after 2 t = fun _ => k0_pay3 (mseAcc V c t.val t.isLt) := by dsimp only [mseDat]

/-- An input's staging buffer holds the input's block when the body runs. -/
theorem mse_before0 (c : Dev nD) (t : Fin cfg0.N) (d) : (mseDat V c).before 0 t d = mseBlk V c 0 t :=
  ((mseDat V c).before_in_eq_fetched 0 rfl (fun _ => rfl) (fun _ _ _ => rfl)
    (fun t => by rw [mse_after0]; unfold Dat.blockOf mseBlk; rw [mseDat_A]; try rfl) t d).trans
    (by unfold Dat.fetched Dat.blockOf mseBlk; rw [mseDat_A]; try rfl)
theorem mse_before1 (c : Dev nD) (t : Fin cfg0.N) (d) : (mseDat V c).before 1 t d = mseBlk V c 1 t :=
  ((mseDat V c).before_in_eq_fetched 1 rfl (fun _ => rfl) (fun _ _ _ => rfl)
    (fun t => by rw [mse_after1]; unfold Dat.blockOf mseBlk; rw [mseDat_A]; try rfl) t d).trans
    (by unfold Dat.fetched Dat.blockOf mseBlk; rw [mseDat_A]; try rfl)

/-- The result's window is idle, and not written back, except at the last point. -/
theorem mse_idle2 : ∀ t : Fin cfg0.N, t.val ≠ 11 → cfg0.idle 2 (grid0.coords t) = true := by decide +kernel
theorem mse_noFlush2 : ∀ t : Fin cfg0.N, t.val ≠ 11 → (cfg0.win 2).flush t = false := by decide +kernel
theorem mse_live2 : ∀ t : Fin cfg0.N, t.val = 11 → cfg0.idle 2 (grid0.coords t) = false := by decide +kernel

theorem msePhi_castSucc (c : Dev nD) (t : Fin cfg0.N) :
    (mseDat V c).Φ t.castSucc = msePhi V c t.val (Nat.le_of_lt t.isLt) := by
  dsimp only [mseDat]; exact Pipeline.Dat.Φ_castSucc (msePhi V c) t

/-- What the body is run with at point `t`, the windows one by one, -/
def msePre (c : Dev nD) (t : Fin cfg0.N) : sProp 𝕄 :=
  iprop((mseDat V c).Φ t.castSucc ∗ (mseDat V c).owesAt () t.castSucc
    ∗ (∃ d, owns (c : Thread nD τ) (st0_0 t) fullShare ((mseDat V c).before 0 t d))
    ∗ (∃ d, owns (c : Thread nD τ) (st0_1 t) fullShare ((mseDat V c).before 1 t d))
    ∗ (∃ d, owns (c : Thread nD τ) (st0_2 t) fullShare ((mseDat V c).before 2 t d)))

/-- and what it leaves. -/
def msePost (c : Dev nD) (t : Fin cfg0.N) : sProp 𝕄 :=
  iprop((mseDat V c).Φ t.succ ∗ (mseDat V c).owesAt () t.succ
    ∗ (mseDat V c).leavesExact 0 t ∗ (mseDat V c).leavesExact 1 t ∗ (mseDat V c).leavesExact 2 t)

set_option maxHeartbeats 4800000 in
/-- The body at any point: the first, a middle or the last one. -/
theorem mse_sound (c : Dev nD) (t : Fin cfg0.N) :
    msePre V c t ⊢ wp frame (wpE (defs₀ (F := F)) Variants.none c none) Set.univ (bodyAt0 t) (fun _ => msePost V c t) := by
  unfold msePre msePost bodyAt0
  simp only [mse_before0, mse_before1]
  rw [show (mseDat V c).owesAt () t.succ = (mseDat V c).owesAt () t.castSucc from rfl]
  rw [show (mseDat V c).Φ t.succ = msePhi V c (t.val + 1) t.isLt from rfl, msePhi_pos V c (t.val + 1) t.isLt (Nat.succ_ne_zero _)]
  simp only [Nat.add_sub_cancel]
  rw [show (mseDat V c).leavesExact 0 t = owns (c : Thread nD τ) (st0_0 t) fullShare ((mseDat V c).after 0 t) from rfl, mse_after0,
    show (mseDat V c).leavesExact 1 t = owns (c : Thread nD τ) (st0_1 t) fullShare ((mseDat V c).after 1 t) from rfl, mse_after1]
  by_cases h0 : t.val = 0
  · rw [Dat.leavesExact_idle (mseDat V c) 2 t (mse_idle2 t (by omega)) (mse_noFlush2 t (by omega)),
      msePhi_castSucc, msePhi_zero V c _ _ h0, mseAcc_zero V c t h0]
    iintro ⟨⟨⟨HS, Hr⟩, Hg⟩, Ho, ⟨%d0, H0⟩, ⟨%d1, H1⟩, ⟨%d2, H2⟩⟩
    iapply (mse_first c (grid0.coords t) _ _ _ _ _ _ _ _ (mseBlk V c 0 t) (mseBlk V c 1 t)
      ((mseFirst_iff t).mpr h0) (fun h => (mseLater_iff t).mp h h0) (fun h => by have := (mseLast_iff t).mp h; omega) _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  by_cases h11 : t.val = 11
  · rw [show (mseDat V c).leavesExact 2 t = owns (c : Thread nD τ) (st0_2 t) fullShare ((mseDat V c).after 2 t) from by
        unfold Dat.leavesExact; rw [mse_live2 t h11], mse_after2,
      msePhi_castSucc, msePhi_pos V c _ _ h0, mseAcc_pos V c t h0]
    iintro ⟨⟨⟨HS, Hr⟩, Hg⟩, Ho, ⟨%d0, H0⟩, ⟨%d1, H1⟩, ⟨%d2, H2⟩⟩
    iapply (mse_last c (grid0.coords t) _ _ _ _ _ _ _ _ (mseBlk V c 0 t) (mseBlk V c 1 t)
      (fun h => h0 ((mseFirst_iff t).mp h)) ((mseLater_iff t).mpr h0) ((mseLast_iff t).mpr h11) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (mseDat V c) 2 t (mse_idle2 t h11) (mse_noFlush2 t h11),
      msePhi_castSucc, msePhi_pos V c _ _ h0, mseAcc_pos V c t h0]
    iintro ⟨⟨⟨HS, Hr⟩, Hg⟩, Ho, ⟨%d0, H0⟩, ⟨%d1, H1⟩, ⟨%d2, H2⟩⟩
    iapply (mse_middle c (grid0.coords t) _ _ _ _ _ _ _ _ (mseBlk V c 0 t) (mseBlk V c 1 t)
      (fun h => h0 ((mseFirst_iff t).mp h)) ((mseLater_iff t).mpr h0) (fun h => h11 ((mseLast_iff t).mp h)) _ _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2

theorem mse_row (t : Fin cfg0.N) : defs₀ (F := F) .tc cfg0.body (cfg0.bodyArgs t (cfg0.slots t)) = bodyAt0 t := by
  unfold defs₀; rw [Defs.onTc_tc]

/-- The body meets the pipeline's obligation at every point. -/
theorem mse_obligation (c : Dev nD) : BodyObligation (mseDat (F := F) V c) (defs₀ (F := F)) Variants.none () Set.univ := fun t => by
  rw [bigSep_W0, bigSep_W0, mse_row]
  exact triple_restated (mse_sound V c t) rfl .rfl fun _ => .rfl

/-- What the region is given is what is kept before the first point, -/
theorem mse_in (c : Dev nD) : Pipeline.ΦA spec0 c ⊢ (mseDat V c).Φ 0 := by
  rw [show (mseDat V c).Φ 0 = Pipeline.ΦA spec0 c from rfl]

/-- and what is kept after the last point gives it back. -/
theorem mse_out (c : Dev nD) : (mseDat V c).Φ (Fin.last cfg0.N) ⊢ Pipeline.ΦA spec0 c := by
  rw [show (mseDat V c).Φ (Fin.last cfg0.N) = msePhi V c cfg0.N (le_refl _) from rfl,
    msePhi_pos V c _ _ (by rw [show cfg0.N = 12 from N_0]; decide),
    show (Pipeline.ΦA spec0 c : sProp 𝕄) = msePhi V c 0 (Nat.zero_le _) from rfl, msePhi_zero V c 0 _ rfl]
  iintro ⟨⟨HS, Hr⟩, Hg⟩
  isplitl [HS Hr]
  · isplitl [HS]
    · iexists _; iexact HS
    iexact Hr
  iexact Hg

end Cert.Som

end
-- ==== Proof.SomRun.lean ====
/- The second call of the kernel (the map's part of the loss), on any whole staging buffers: when its conditionals are taken,
   and what one run of the body leaves in the three accumulators and in the three results. -/
module

public import proofs.«01_k».proof.Proof.Mse

@[expose] public section

set_option maxRecDepth 16384

noncomputable section

namespace Cert.Som

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The conditionals, by the position of the point -/

/-- The condition of the body's first conditional: this is the first point. -/
abbrev somFirst (i : grid1.Coords) : Prop :=
  Scalar.cmpi .ne (Scalar.extui (Scalar.cmpi .eq (BitVec.ofNat 32 (i 0).val) 0#32)) 0#32 = 1#1
/-- The condition of the second: this is a later point. -/
abbrev somLater (i : grid1.Coords) : Prop :=
  Scalar.cmpi .ne (Scalar.extui (Scalar.cmpi .sgt (BitVec.ofNat 32 (i 0).val) 0#32)) 0#32 = 1#1
/-- The condition of the third: this is the last point. -/
abbrev somLast (i : grid1.Coords) : Prop := k1_cond3 i = 1#1

theorem somFirst_iff : ∀ t : Fin cfg1.N, somFirst (grid1.coords t) ↔ t.val = 0 :=
  (by decide +kernel : ∀ t : Fin grid1.N, somFirst (grid1.coords t) ↔ t.val = 0)
theorem somLater_iff : ∀ t : Fin cfg1.N, somLater (grid1.coords t) ↔ t.val ≠ 0 :=
  (by decide +kernel : ∀ t : Fin grid1.N, somLater (grid1.coords t) ↔ t.val ≠ 0)
theorem somLast_iff : ∀ t : Fin cfg1.N, somLast (grid1.coords t) ↔ t.val = 13 :=
  (by decide +kernel : ∀ t : Fin grid1.N, somLast (grid1.coords t) ↔ t.val = 13)

/-! ## What a point computes -/

/-- What a point reads: fourteen rows of patches, the two halves of the map's block, the grid's coordinates, the width, the
    weight of the map's part, and the first call's result. -/
structure SomIn (F : FTy → Type) where
  x : Fin 14 → Vec F S1x64x384 .f32
  w0 : Vec F S256x5376 .f32
  w1 : Vec F S256x5376 .f32
  gc : Vec F S512x2 .f32
  sig : Vec F S1 .f32
  lam : Vec F S1 .f32
  lnn : Vec F S1 .f32

/-- The three accumulators: the dot products, the squared norms of the rows, those of the map's vectors. -/
structure SomAcc (F : FTy → Type) where
  g : Vec F S64x512 .f32
  sx : Vec F S64x1 .f32
  sy : Vec F S512x1 .f32

/-- The three results: the total, the mean squared error, the map's part. -/
structure SomOut (F : FTy → Type) where
  lt : Vec F S1 .f32
  ln : Vec F S1 .f32
  ls : Vec F S1 .f32

/-- The point's dot products. -/
def somDot (x : SomIn F) : FVec F S64x512 .f32 :=
  k1_pay2 (k1_pay18 (x.x 0)) (k1_pay19 (x.x 1)) (k1_pay20 (x.x 2)) (k1_pay21 (x.x 3)) (k1_pay22 (x.x 4)) (k1_pay23 (x.x 5)) (k1_pay24 (x.x 6)) (k1_pay25 (x.x 7)) (k1_pay26 (x.x 8)) (k1_pay27 (x.x 9)) (k1_pay28 (x.x 10)) (x.x 11) (x.x 12) (x.x 13) x.w0 x.w1

/-- The accumulators after the first point. -/
def somInit (x : SomIn F) : SomAcc F where
  g := k1_pay5 (somDot x)
  sx := k1_pay6 (k1_pay18 (x.x 0)) (k1_pay19 (x.x 1)) (k1_pay20 (x.x 2)) (k1_pay21 (x.x 3)) (k1_pay22 (x.x 4)) (k1_pay23 (x.x 5)) (k1_pay24 (x.x 6)) (k1_pay25 (x.x 7)) (k1_pay26 (x.x 8)) (k1_pay27 (x.x 9)) (k1_pay28 (x.x 10)) (x.x 11) (x.x 12) (x.x 13)
  sy := k1_pay7 x.w0 x.w1

/-- The accumulators after a later point, from what they held. -/
def somNext (x : SomIn F) (s : SomAcc F) : SomAcc F where
  g := k1_pay8 (somDot x) s.g
  sx := k1_pay9 (k1_pay18 (x.x 0)) (k1_pay19 (x.x 1)) (k1_pay20 (x.x 2)) (k1_pay21 (x.x 3)) (k1_pay22 (x.x 4)) (k1_pay23 (x.x 5)) (k1_pay24 (x.x 6)) (k1_pay25 (x.x 7)) (k1_pay26 (x.x 8)) (k1_pay27 (x.x 9)) (k1_pay28 (x.x 10)) (x.x 11) (x.x 12) (x.x 13) s.sx
  sy := k1_pay10 x.w0 x.w1 s.sy

/-- The map's part of the loss, from the accumulators. -/
def somLs (gc : Vec F S512x2 .f32) (sg : F .f32) (s : SomAcc F) : F .f32 :=
  k1_pay11 (k1_pay13 s.sy s.sx s.g) gc (k1_pay14 s.sy s.sx s.g gc) (k1_pay15 s.sy s.sx s.g gc) (k1_pay16 (F := F)) (k1_pay17 gc)
    (constant S1x512 .f32 0x00000000#32) sg

/-- The total, from the accumulators. -/
def somLt (gc : Vec F S512x2 .f32) (sg lam lnn : F .f32) (s : SomAcc F) : F .f32 :=
  k1_pay12 (k1_pay13 s.sy s.sx s.g) gc (k1_pay14 s.sy s.sx s.g gc) (k1_pay15 s.sy s.sx s.g gc) (k1_pay16 (F := F)) (k1_pay17 gc)
    (constant S1x512 .f32 0x00000000#32) sg lnn lam

/-- The one element of a one-element vector. -/
abbrev only (v : Vec F S1 .f32) : F .f32 := v (Shape.Idx.first (by decide))

/-- The results, from what the last point reads and the accumulators it leaves. -/
def somEnd (x : SomIn F) (s : SomAcc F) : SomOut F where
  lt := fun _ => somLt x.gc (only x.sig) (only x.lam) (only x.lnn) s
  ln := fun _ => only x.lnn
  ls := fun _ => somLs x.gc (only x.sig) s

/-! ## Loads of whole buffers, and loads after one store over all of the buffer -/

section Whole

variable {κ : Kind} {sp : Space} {e : EltTy}

theorem load_S1x64x384 (v : View sig κ sp S1x64x384 e) (f : v.ty.Contents (Elt F)) (inb : ∀ a, (![0, 0, 0] : Fin 3 → Nat) a + (![1, 64, 384] : Fin 3 → Nat) a ≤ S1x64x384.size a) :
    v.readAt (Elt F) (Rect.unit (s := S1x64x384) ![0, 0, 0] ![1, 64, 384] inb).toLoadRect f = v.read (Elt F) f := load_whole (S := S1x64x384) v f zero3 inb
theorem load_S256x5376 (v : View sig κ sp S256x5376 e) (f : v.ty.Contents (Elt F)) (inb : ∀ a, (![0, 0] : Fin 2 → Nat) a + (![256, 5376] : Fin 2 → Nat) a ≤ S256x5376.size a) :
    v.readAt (Elt F) (Rect.unit (s := S256x5376) ![0, 0] ![256, 5376] inb).toLoadRect f = v.read (Elt F) f := load_whole (S := S256x5376) v f zero2 inb
theorem load_S512x2 (v : View sig κ sp S512x2 e) (f : v.ty.Contents (Elt F)) (inb : ∀ a, (![0, 0] : Fin 2 → Nat) a + (![512, 2] : Fin 2 → Nat) a ≤ S512x2.size a) :
    v.readAt (Elt F) (Rect.unit (s := S512x2) ![0, 0] ![512, 2] inb).toLoadRect f = v.read (Elt F) f := load_whole (S := S512x2) v f zero2 inb
theorem load_S1 (v : View sig κ sp S1 e) (f : v.ty.Contents (Elt F)) (inb : ∀ a, (![0] : Fin 1 → Nat) a + (![1] : Fin 1 → Nat) a ≤ S1.size a) :
    v.readAt (Elt F) (Rect.unit (s := S1) ![0] ![1] inb).toLoadRect f = v.read (Elt F) f := load_whole (S := S1) v f zero1 inb
theorem load_S64x512 (v : View sig κ sp S64x512 e) (f : v.ty.Contents (Elt F)) (inb : ∀ a, (![0, 0] : Fin 2 → Nat) a + (![64, 512] : Fin 2 → Nat) a ≤ S64x512.size a) :
    v.readAt (Elt F) (Rect.unit (s := S64x512) ![0, 0] ![64, 512] inb).toLoadRect f = v.read (Elt F) f := load_whole (S := S64x512) v f zero2 inb
theorem load_S64x1 (v : View sig κ sp S64x1 e) (f : v.ty.Contents (Elt F)) (inb : ∀ a, (![0, 0] : Fin 2 → Nat) a + (![64, 1] : Fin 2 → Nat) a ≤ S64x1.size a) :
    v.readAt (Elt F) (Rect.unit (s := S64x1) ![0, 0] ![64, 1] inb).toLoadRect f = v.read (Elt F) f := load_whole (S := S64x1) v f zero2 inb
theorem load_S512x1 (v : View sig κ sp S512x1 e) (f : v.ty.Contents (Elt F)) (inb : ∀ a, (![0, 0] : Fin 2 → Nat) a + (![512, 1] : Fin 2 → Nat) a ≤ S512x1.size a) :
    v.readAt (Elt F) (Rect.unit (s := S512x1) ![0, 0] ![512, 1] inb).toLoadRect f = v.read (Elt F) f := load_whole (S := S512x1) v f zero2 inb
theorem reload_S64x512 (v : View sig κ sp S64x512 e) (inb : ∀ a, (![0, 0] : Fin 2 → Nat) a + (![64, 512] : Fin 2 → Nat) a ≤ S64x512.size a)
    (w : S64x512.Idx → Elt F e) : v.readCov [⟨Rect.unit (s := S64x512) ![0, 0] ![64, 512] inb, w⟩] (Rect.unit (s := S64x512) ![0, 0] ![64, 512] inb).toLoadRect = w :=
  View.readCov_unit_zero (S := S64x512) v zero2 inb w
theorem reload_S64x1 (v : View sig κ sp S64x1 e) (inb : ∀ a, (![0, 0] : Fin 2 → Nat) a + (![64, 1] : Fin 2 → Nat) a ≤ S64x1.size a)
    (w : S64x1.Idx → Elt F e) : v.readCov [⟨Rect.unit (s := S64x1) ![0, 0] ![64, 1] inb, w⟩] (Rect.unit (s := S64x1) ![0, 0] ![64, 1] inb).toLoadRect = w :=
  View.readCov_unit_zero (S := S64x1) v zero2 inb w
theorem reload_S512x1 (v : View sig κ sp S512x1 e) (inb : ∀ a, (![0, 0] : Fin 2 → Nat) a + (![512, 1] : Fin 2 → Nat) a ≤ S512x1.size a)
    (w : S512x1.Idx → Elt F e) : v.readCov [⟨Rect.unit (s := S512x1) ![0, 0] ![512, 1] inb, w⟩] (Rect.unit (s := S512x1) ![0, 0] ![512, 1] inb).toLoadRect = w :=
  View.readCov_unit_zero (S := S512x1) v zero2 inb w

end Whole

/-! ## One run of the body -/

/-- The three kinds of point, with what each leaves in the accumulators and the results. -/
def SomCase (i : grid1.Coords) (x : SomIn F) (s s' : SomAcc F) (o o' : SomOut F) : Prop :=
  (somFirst i ∧ ¬ somLater i ∧ ¬ somLast i ∧ s' = somInit x ∧ o' = o)
  ∨ (¬ somFirst i ∧ somLater i ∧ ¬ somLast i ∧ s' = somNext x s ∧ o' = o)
  ∨ (¬ somFirst i ∧ somLater i ∧ somLast i ∧ s' = somNext x s ∧ o' = somEnd x (somNext x s))

section Body

variable (c : Dev nD) (i : grid1.Coords)
  (arg1 : Memref sig .tc .vmem S1x64x384 .f32) (harg1 : arg1.IsWhole)
  (arg2 : Memref sig .tc .vmem S1x64x384 .f32) (harg2 : arg2.IsWhole)
  (arg3 : Memref sig .tc .vmem S1x64x384 .f32) (harg3 : arg3.IsWhole)
  (arg4 : Memref sig .tc .vmem S1x64x384 .f32) (harg4 : arg4.IsWhole)
  (arg5 : Memref sig .tc .vmem S1x64x384 .f32) (harg5 : arg5.IsWhole)
  (arg6 : Memref sig .tc .vmem S1x64x384 .f32) (harg6 : arg6.IsWhole)
  (arg7 : Memref sig .tc .vmem S1x64x384 .f32) (harg7 : arg7.IsWhole)
  (arg8 : Memref sig .tc .vmem S1x64x384 .f32) (harg8 : arg8.IsWhole)
  (arg9 : Memref sig .tc .vmem S1x64x384 .f32) (harg9 : arg9.IsWhole)
  (arg10 : Memref sig .tc .vmem S1x64x384 .f32) (harg10 : arg10.IsWhole)
  (arg11 : Memref sig .tc .vmem S1x64x384 .f32) (harg11 : arg11.IsWhole)
  (arg12 : Memref sig .tc .vmem S1x64x384 .f32) (harg12 : arg12.IsWhole)
  (arg13 : Memref sig .tc .vmem S1x64x384 .f32) (harg13 : arg13.IsWhole)
  (arg14 : Memref sig .tc .vmem S1x64x384 .f32) (harg14 : arg14.IsWhole)
  (arg15 : Memref sig .tc .vmem S256x5376 .f32) (harg15 : arg15.IsWhole)
  (arg16 : Memref sig .tc .vmem S256x5376 .f32) (harg16 : arg16.IsWhole)
  (arg17 : Memref sig .tc .vmem S512x2 .f32) (harg17 : arg17.IsWhole)
  (arg18 : Memref sig .tc .smem S1 .f32) (harg18 : arg18.IsWhole)
  (arg19 : Memref sig .tc .smem S1 .f32) (harg19 : arg19.IsWhole)
  (arg20 : Memref sig .tc .smem S1 .f32) (harg20 : arg20.IsWhole)
  (arg21 : Memref sig .tc .smem S1 .f32) (harg21 : arg21.IsWhole)
  (arg22 : Memref sig .tc .smem S1 .f32) (harg22 : arg22.IsWhole)
  (arg23 : Memref sig .tc .smem S1 .f32) (harg23 : arg23.IsWhole)
  (arg24 : Memref sig .tc .vmem S64x512 .f32) (harg24 : arg24.IsWhole)
  (arg25 : Memref sig .tc .vmem S64x1 .f32) (harg25 : arg25.IsWhole)
  (arg26 : Memref sig .tc .vmem S512x1 .f32) (harg26 : arg26.IsWhole)

set_option maxHeartbeats 4000000 in
/-- One run of the body: the inputs are left as they are, the accumulators and the results as the kind of point says. -/
theorem som_run (x : SomIn F) (s s' : SomAcc F) (o o' : SomOut F) (hcase : SomCase i x s s' o o') (E : Set ℕ) (K : PUnit → sProp 𝕄) :
    iprop(owns (c : Thread nD τ) arg1 fullShare (x.x 0) ∗ owns (c : Thread nD τ) arg2 fullShare (x.x 1) ∗ owns (c : Thread nD τ) arg3 fullShare (x.x 2)
        ∗ owns (c : Thread nD τ) arg4 fullShare (x.x 3) ∗ owns (c : Thread nD τ) arg5 fullShare (x.x 4) ∗ owns (c : Thread nD τ) arg6 fullShare (x.x 5)
        ∗ owns (c : Thread nD τ) arg7 fullShare (x.x 6) ∗ owns (c : Thread nD τ) arg8 fullShare (x.x 7) ∗ owns (c : Thread nD τ) arg9 fullShare (x.x 8)
        ∗ owns (c : Thread nD τ) arg10 fullShare (x.x 9) ∗ owns (c : Thread nD τ) arg11 fullShare (x.x 10) ∗ owns (c : Thread nD τ) arg12 fullShare (x.x 11)
        ∗ owns (c : Thread nD τ) arg13 fullShare (x.x 12) ∗ owns (c : Thread nD τ) arg14 fullShare (x.x 13) ∗ owns (c : Thread nD τ) arg15 fullShare x.w0
        ∗ owns (c : Thread nD τ) arg16 fullShare x.w1 ∗ owns (c : Thread nD τ) arg17 fullShare x.gc ∗ owns (c : Thread nD τ) arg18 fullShare x.sig
        ∗ owns (c : Thread nD τ) arg19 fullShare x.lam ∗ owns (c : Thread nD τ) arg20 fullShare x.lnn ∗ owns (c : Thread nD τ) arg21 fullShare o.lt
        ∗ owns (c : Thread nD τ) arg22 fullShare o.ln ∗ owns (c : Thread nD τ) arg23 fullShare o.ls ∗ owns (c : Thread nD τ) arg24 fullShare s.g
        ∗ owns (c : Thread nD τ) arg25 fullShare s.sx ∗ owns (c : Thread nD τ) arg26 fullShare s.sy
        ∗ (iprop(owns (c : Thread nD τ) arg1 fullShare (x.x 0) ∗ owns (c : Thread nD τ) arg2 fullShare (x.x 1) ∗ owns (c : Thread nD τ) arg3 fullShare (x.x 2)
        ∗ owns (c : Thread nD τ) arg4 fullShare (x.x 3) ∗ owns (c : Thread nD τ) arg5 fullShare (x.x 4) ∗ owns (c : Thread nD τ) arg6 fullShare (x.x 5)
        ∗ owns (c : Thread nD τ) arg7 fullShare (x.x 6) ∗ owns (c : Thread nD τ) arg8 fullShare (x.x 7) ∗ owns (c : Thread nD τ) arg9 fullShare (x.x 8)
        ∗ owns (c : Thread nD τ) arg10 fullShare (x.x 9) ∗ owns (c : Thread nD τ) arg11 fullShare (x.x 10) ∗ owns (c : Thread nD τ) arg12 fullShare (x.x 11)
        ∗ owns (c : Thread nD τ) arg13 fullShare (x.x 12) ∗ owns (c : Thread nD τ) arg14 fullShare (x.x 13) ∗ owns (c : Thread nD τ) arg15 fullShare x.w0
        ∗ owns (c : Thread nD τ) arg16 fullShare x.w1 ∗ owns (c : Thread nD τ) arg17 fullShare x.gc ∗ owns (c : Thread nD τ) arg18 fullShare x.sig
        ∗ owns (c : Thread nD τ) arg19 fullShare x.lam ∗ owns (c : Thread nD τ) arg20 fullShare x.lnn ∗ owns (c : Thread nD τ) arg21 fullShare o'.lt
        ∗ owns (c : Thread nD τ) arg22 fullShare o'.ln ∗ owns (c : Thread nD τ) arg23 fullShare o'.ls ∗ owns (c : Thread nD τ) arg24 fullShare s'.g
        ∗ owns (c : Thread nD τ) arg25 fullShare s'.sx ∗ owns (c : Thread nD τ) arg26 fullShare s'.sy) -∗ K ⟨⟩))
      ⊢ wp frame (wpE (defs₀ (F := F)) Variants.none c none) E (cc1__som_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc1__som_body_eq_skeleton]; unfold cc1__som_body_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  rcases hcase with ⟨h1, h2, h3, rfl, rfl⟩ | ⟨h1, h2, h3, rfl, rfl⟩ | ⟨h1, h2, h3, rfl, rfl⟩
  all_goals
    sl_exec (disch := first | sl_exact h1 | sl_exact h2 | sl_exact h3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; · ipureintro; exact hf16
      iexact H16
    isplitl [H17]
    · iexists _; isplitr; · ipureintro; exact hf17
      iexact H17
    isplitl [H18]
    · iexists _; isplitr; · ipureintro; exact hf18
      iexact H18
    isplitl [H19]
    · iexists _; isplitr; · ipureintro; exact hf19
      iexact H19
    isplitl [H20]
    · iexists _; isplitr
      swap; · iexact H20
      ipureintro
      first
        | exact hf20
        | (sl_unfold_words
           refine (read_whole_store _ _ zero1 _ _).trans ?_
           simp only [load_S1x64x384, load_S256x5376, load_S512x2, load_S1, load_S64x512, load_S64x1, load_S512x1, reload_S64x512, reload_S64x1, reload_S512x1,
           hf0, hf1, hf2, hf3, hf4, hf5, hf6, hf7, hf8, hf9, hf10, hf11, hf12, hf13, hf14, hf15, hf16, hf17, hf18, hf19, hf20, hf21, hf22, hf23, hf24, hf25]
           rfl)
    isplitl [H21]
    · iexists _; isplitr
      swap; · iexact H21
      ipureintro
      first
        | exact hf21
        | (sl_unfold_words
           refine (read_whole_store _ _ zero1 _ _).trans ?_
           simp only [load_S1x64x384, load_S256x5376, load_S512x2, load_S1, load_S64x512, load_S64x1, load_S512x1, reload_S64x512, reload_S64x1, reload_S512x1,
           hf0, hf1, hf2, hf3, hf4, hf5, hf6, hf7, hf8, hf9, hf10, hf11, hf12, hf13, hf14, hf15, hf16, hf17, hf18, hf19, hf20, hf21, hf22, hf23, hf24, hf25]
           rfl)
    isplitl [H22]
    · iexists _; isplitr
      swap; · iexact H22
      ipureintro
      first
        | exact hf22
        | (sl_unfold_words
           refine (read_whole_store _ _ zero1 _ _).trans ?_
           simp only [load_S1x64x384, load_S256x5376, load_S512x2, load_S1, load_S64x512, load_S64x1, load_S512x1, reload_S64x512, reload_S64x1, reload_S512x1,
           hf0, hf1, hf2, hf3, hf4, hf5, hf6, hf7, hf8, hf9, hf10, hf11, hf12, hf13, hf14, hf15, hf16, hf17, hf18, hf19, hf20, hf21, hf22, hf23, hf24, hf25]
           rfl)
    isplitl [H23]
    · iexists _; isplitr
      swap; · iexact H23
      ipureintro
      sl_unfold_words
      refine (read_whole_store _ _ zero2 _ _).trans ?_
      simp only [load_S1x64x384, load_S256x5376, load_S512x2, load_S1, load_S64x512, load_S64x1, load_S512x1, reload_S64x512, reload_S64x1, reload_S512x1,
        hf0, hf1, hf2, hf3, hf4, hf5, hf6, hf7, hf8, hf9, hf10, hf11, hf12, hf13, hf14, hf15, hf16, hf17, hf18, hf19, hf20, hf21, hf22, hf23, hf24, hf25]
      rfl
    isplitl [H24]
    · iexists _; isplitr
      swap; · iexact H24
      ipureintro
      sl_unfold_words
      refine (read_whole_store _ _ zero2 _ _).trans ?_
      simp only [load_S1x64x384, load_S256x5376, load_S512x2, load_S1, load_S64x512, load_S64x1, load_S512x1, reload_S64x512, reload_S64x1, reload_S512x1,
        hf0, hf1, hf2, hf3, hf4, hf5, hf6, hf7, hf8, hf9, hf10, hf11, hf12, hf13, hf14, hf15, hf16, hf17, hf18, hf19, hf20, hf21, hf22, hf23, hf24, hf25]
      rfl
    iexists _; isplitr
    swap; · iexact H25
    ipureintro; sl_unfold_words
    refine (read_whole_store _ _ zero2 _ _).trans ?_
    simp only [load_S1x64x384, load_S256x5376, load_S512x2, load_S1, load_S64x512, load_S64x1, load_S512x1, reload_S64x512, reload_S64x1, reload_S512x1,
      hf0, hf1, hf2, hf3, hf4, hf5, hf6, hf7, hf8, hf9, hf10, hf11, hf12, hf13, hf14, hf15, hf16, hf17, hf18, hf19, hf20, hf21, hf22, hf23, hf24, hf25]
    rfl

end Body

end Cert.Som

end
-- ==== Proof.Som.lean ====
/- The second call of the kernel as a region of the program, entered with the buffers at any contents: what its accumulators and
   results hold after each point, and the body's obligation. -/
module

public import proofs.«01_k».proof.Proof.SomRun

@[expose] public section

set_option maxRecDepth 16384

noncomputable section

namespace Cert.Som

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-- The block of window `w` at point `t`, read off the window's array. -/
def somBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point `t` reads. -/
def somIn (c : Dev nD) (t : Fin cfg1.N) : SomIn F where
  x j := match j with
    | ⟨0, _⟩ => somBlk V c 0 t
    | ⟨1, _⟩ => somBlk V c 1 t
    | ⟨2, _⟩ => somBlk V c 2 t
    | ⟨3, _⟩ => somBlk V c 3 t
    | ⟨4, _⟩ => somBlk V c 4 t
    | ⟨5, _⟩ => somBlk V c 5 t
    | ⟨6, _⟩ => somBlk V c 6 t
    | ⟨7, _⟩ => somBlk V c 7 t
    | ⟨8, _⟩ => somBlk V c 8 t
    | ⟨9, _⟩ => somBlk V c 9 t
    | ⟨10, _⟩ => somBlk V c 10 t
    | ⟨11, _⟩ => somBlk V c 11 t
    | ⟨12, _⟩ => somBlk V c 12 t
    | ⟨13, _⟩ => somBlk V c 13 t
    | ⟨n + 14, h⟩ => absurd h (by omega)
  w0 := somBlk V c 14 t
  w1 := somBlk V c 15 t
  gc := somBlk V c 16 t
  sig := somBlk V c 17 t
  lam := somBlk V c 18 t
  lnn := somBlk V c 19 t

/-- The accumulators after point `n`. -/
def somAt (c : Dev nD) : (n : ℕ) → n < cfg1.N → SomAcc F
  | 0, h => somInit (somIn V c ⟨0, h⟩)
  | n + 1, h => somNext (somIn V c ⟨n + 1, h⟩) (somAt c n (Nat.lt_of_succ_lt h))

theorem somAt_zero (c : Dev nD) (t : Fin cfg1.N) (h : t.val = 0) : somAt V c t.val t.isLt = somInit (somIn V c t) := by
  obtain ⟨n, hn⟩ := t; simp only at h; subst h; rfl
theorem somAt_pos (c : Dev nD) (t : Fin cfg1.N) (h : t.val ≠ 0) :
    somAt V c t.val t.isLt = somNext (somIn V c t) (somAt V c (t.val - 1) (Nat.lt_of_le_of_lt (Nat.sub_le _ _) t.isLt)) := by
  obtain ⟨n, hn⟩ := t
  cases n with
  | zero => exact absurd rfl h
  | succ n => rfl

/-- The accumulators' buffers, whole. -/
abbrev somScr0 : Memref sig .tc .vmem S64x512 .f32 := Memref.whole cc1_scratch0
abbrev somScr1 : Memref sig .tc .vmem S64x1 .f32 := Memref.whole cc1_scratch1
abbrev somScr2 : Memref sig .tc .vmem S512x1 .f32 := Memref.whole cc1_scratch2

/-- What is kept beside the staging buffers before position `n`: before the first point the accumulators at anything, afterwards
    at what the point before left; the program's other scoped buffers at anything; the generator register at some state. -/
def somPhi (c : Dev nD) : (n : ℕ) → n ≤ cfg1.N → sProp 𝕄
  | 0, _ => Pipeline.ΦA spec1 c
  | n + 1, h => iprop(((owns (c : Thread nD τ) somScr0 fullShare (somAt V c n h).g ∗ owns (c : Thread nD τ) somScr1 fullShare (somAt V c n h).sx
        ∗ owns (c : Thread nD τ) somScr2 fullShare (somAt V c n h).sy)
      ∗ Pipeline.scopedRestBut (Ix := Unit) (Name := ℕ) (U := UR sig nD τ) (Lvl := ℕ) (Val := Elt F) spec1 c [cc1_scratch0, cc1_scratch1, cc1_scratch2]) ∗ (∃ r, prngReg c r))

theorem somPhi_zero (c : Dev nD) (n : ℕ) (h : n ≤ cfg1.N) (hz : n = 0) : somPhi V c n h =
    iprop((((∃ d, owns (c : Thread nD τ) somScr0 fullShare d) ∗ (∃ d, owns (c : Thread nD τ) somScr1 fullShare d)
        ∗ (∃ d, owns (c : Thread nD τ) somScr2 fullShare d))
      ∗ Pipeline.scopedRestBut (Ix := Unit) (Name := ℕ) (U := UR sig nD τ) (Lvl := ℕ) (Val := Elt F) spec1 c [cc1_scratch0, cc1_scratch1, cc1_scratch2]) ∗ (∃ r, prngReg c r)) := by
  subst hz; unfold somPhi Pipeline.ΦA
  rw [Pipeline.scopedRest_split_of_list spec1 c [cc1_scratch0, cc1_scratch1, cc1_scratch2] (by decide) (by decide)]
  simp only [somScr0, somScr1, somScr2, owns_whole]; try rfl
theorem somPhi_pos (c : Dev nD) (n : ℕ) (h : n ≤ cfg1.N) (hz : n ≠ 0) : somPhi V c n h =
    iprop(((owns (c : Thread nD τ) somScr0 fullShare (somAt V c (n - 1) (by omega)).g
        ∗ owns (c : Thread nD τ) somScr1 fullShare (somAt V c (n - 1) (by omega)).sx
        ∗ owns (c : Thread nD τ) somScr2 fullShare (somAt V c (n - 1) (by omega)).sy)
      ∗ Pipeline.scopedRestBut (Ix := Unit) (Name := ℕ) (U := UR sig nD τ) (Lvl := ℕ) (Val := Elt F) spec1 c [cc1_scratch0, cc1_scratch1, cc1_scratch2]) ∗ (∃ r, prngReg c r)) := by
  cases n with
  | zero => exact absurd rfl hz
  | succ n => rfl

/-- The results as the last point computes them, from what point `t` reads and leaves. -/
def somRes (c : Dev nD) (t : Fin cfg1.N) : SomOut F := somEnd (somIn V c t) (somAt V c t.val t.isLt)

/-- The region's data: the arrays as entered; after each point the inputs' buffers at their blocks and the results' at
    `somRes` (they are only written, and only written back, at the last point). -/
def somDat (c : Dev nD) : Dat τ (Elt F) Unit ℕ (UR sig nD τ) ℕ cfg1 c where
  A w := V c (Pipeline.arrRef spec1 w)
  after w t := match w with
    | ⟨0, _⟩ => somBlk V c 0 t
    | ⟨1, _⟩ => somBlk V c 1 t
    | ⟨2, _⟩ => somBlk V c 2 t
    | ⟨3, _⟩ => somBlk V c 3 t
    | ⟨4, _⟩ => somBlk V c 4 t
    | ⟨5, _⟩ => somBlk V c 5 t
    | ⟨6, _⟩ => somBlk V c 6 t
    | ⟨7, _⟩ => somBlk V c 7 t
    | ⟨8, _⟩ => somBlk V c 8 t
    | ⟨9, _⟩ => somBlk V c 9 t
    | ⟨10, _⟩ => somBlk V c 10 t
    | ⟨11, _⟩ => somBlk V c 11 t
    | ⟨12, _⟩ => somBlk V c 12 t
    | ⟨13, _⟩ => somBlk V c 13 t
    | ⟨14, _⟩ => somBlk V c 14 t
    | ⟨15, _⟩ => somBlk V c 15 t
    | ⟨16, _⟩ => somBlk V c 16 t
    | ⟨17, _⟩ => somBlk V c 17 t
    | ⟨18, _⟩ => somBlk V c 18 t
    | ⟨19, _⟩ => somBlk V c 19 t
    | ⟨20, _⟩ => (somRes V c t).lt
    | ⟨21, _⟩ => (somRes V c t).ln
    | ⟨22, _⟩ => (somRes V c t).ls
    | ⟨n + 23, h⟩ => absurd h (by simp [cfg1])
  Φ t := somPhi V c t.val (Nat.le_of_lt_succ t.isLt)
  q w := Pipeline.shareOf spec1 w
  owed _ := 0

theorem somDat_A (c : Dev nD) (w : Fin cfg1.W) : (somDat V c).A w = V c (Pipeline.arrRef spec1 w) := by dsimp only [somDat]
theorem som_after20 (c : Dev nD) (t : Fin cfg1.N) : (somDat V c).after 20 t = (somRes V c t).lt := by dsimp only [somDat]
theorem som_after21 (c : Dev nD) (t : Fin cfg1.N) : (somDat V c).after 21 t = (somRes V c t).ln := by dsimp only [somDat]
theorem som_after22 (c : Dev nD) (t : Fin cfg1.N) : (somDat V c).after 22 t = (somRes V c t).ls := by dsimp only [somDat]

/-- What the inputs' windows have in common: they are not results, -/
theorem som_in_isOut : ∀ w : Fin 23, w.val < 20 → (cfg1.win w).isOut = false := by decide +kernel
/-- they are read at every point, -/
theorem som_in_live (w : Fin 23) (hw : w.val < 20) (i : grid1.Coords) : cfg1.idle w i = false := by
  fin_cases w <;> first | rfl | exact absurd hw (by decide)
/-- their blocks are never cut at the array's end, -/
theorem som_in_clip (w : Fin 23) (i j : grid1.Coords) : (cfg1.win w).clip i = (cfg1.win w).clip j := by
  fin_cases w <;> rfl
/-- and their buffers are left at their blocks. -/
theorem som_in_keep (c : Dev nD) (w : Fin 23) (hw : w.val < 20) (t : Fin cfg1.N) :
    (cfg1.win w).cut (cfg1.grid.coords t) ((somDat V c).after w t) = (somDat V c).blockOf w t := by
  fin_cases w <;> first | exact absurd hw (by decide) | (unfold Dat.blockOf; rw [somDat_A]; dsimp only [somDat]; rfl)

/-- So an input's buffer holds the input's block when the body runs. -/
theorem som_before (c : Dev nD) (w : Fin 23) (hw : w.val < 20) (t : Fin cfg1.N) (d) :
    (somDat V c).before w t d = (somDat V c).fetched w t d :=
  (somDat V c).before_in_eq_fetched w (som_in_isOut w hw) (som_in_live w hw) (fun _ _ _ => som_in_clip w _ _)
    (som_in_keep V c w hw) t d

/-- The results' windows are idle, and not written back, except at the last point. -/
theorem som_out_idle : ∀ w : Fin 23, 20 ≤ w.val → ∀ t : Fin cfg1.N, t.val ≠ 13 →
    cfg1.idle w (grid1.coords t) = true ∧ (cfg1.win w).flush t = false := by decide +kernel
theorem som_out_live : ∀ w : Fin 23, 20 ≤ w.val → ∀ t : Fin cfg1.N, t.val = 13 → cfg1.idle w (grid1.coords t) = false := by
  decide +kernel

theorem somPhi_castSucc (c : Dev nD) (t : Fin cfg1.N) :
    (somDat V c).Φ t.castSucc = somPhi V c t.val (Nat.le_of_lt t.isLt) := by
  dsimp only [somDat]; exact Pipeline.Dat.Φ_castSucc (somPhi V c) t

/-- The inputs' buffers at point `t`, and the results' at `o`. -/
def somWins (c : Dev nD) (t : Fin cfg1.N) (o : SomOut F) : sProp 𝕄 :=
  iprop(owns (c : Thread nD τ) (st1_0 t) fullShare (somBlk V c 0 t)
    ∗ owns (c : Thread nD τ) (st1_1 t) fullShare (somBlk V c 1 t)
    ∗ owns (c : Thread nD τ) (st1_2 t) fullShare (somBlk V c 2 t)
    ∗ owns (c : Thread nD τ) (st1_3 t) fullShare (somBlk V c 3 t)
    ∗ owns (c : Thread nD τ) (st1_4 t) fullShare (somBlk V c 4 t)
    ∗ owns (c : Thread nD τ) (st1_5 t) fullShare (somBlk V c 5 t)
    ∗ owns (c : Thread nD τ) (st1_6 t) fullShare (somBlk V c 6 t)
    ∗ owns (c : Thread nD τ) (st1_7 t) fullShare (somBlk V c 7 t)
    ∗ owns (c : Thread nD τ) (st1_8 t) fullShare (somBlk V c 8 t)
    ∗ owns (c : Thread nD τ) (st1_9 t) fullShare (somBlk V c 9 t)
    ∗ owns (c : Thread nD τ) (st1_10 t) fullShare (somBlk V c 10 t)
    ∗ owns (c : Thread nD τ) (st1_11 t) fullShare (somBlk V c 11 t)
    ∗ owns (c : Thread nD τ) (st1_12 t) fullShare (somBlk V c 12 t)
    ∗ owns (c : Thread nD τ) (st1_13 t) fullShare (somBlk V c 13 t)
    ∗ owns (c : Thread nD τ) (st1_14 t) fullShare (somBlk V c 14 t)
    ∗ owns (c : Thread nD τ) (st1_15 t) fullShare (somBlk V c 15 t)
    ∗ owns (c : Thread nD τ) (st1_16 t) fullShare (somBlk V c 16 t)
    ∗ owns (c : Thread nD τ) (st1_17 t) fullShare (somBlk V c 17 t)
    ∗ owns (c : Thread nD τ) (st1_18 t) fullShare (somBlk V c 18 t)
    ∗ owns (c : Thread nD τ) (st1_19 t) fullShare (somBlk V c 19 t)
    ∗ owns (c : Thread nD τ) (st1_20 t) fullShare o.lt ∗ owns (c : Thread nD τ) (st1_21 t) fullShare o.ln
    ∗ owns (c : Thread nD τ) (st1_22 t) fullShare o.ls)

/-- What the body is run with at point `t`, the windows one by one, -/
def somPre (c : Dev nD) (t : Fin cfg1.N) : sProp 𝕄 :=
  iprop((somDat V c).Φ t.castSucc ∗ (somDat V c).owesAt () t.castSucc
    ∗ (∃ d, owns (c : Thread nD τ) (st1_0 t) fullShare ((somDat V c).before 0 t d))
    ∗ (∃ d, owns (c : Thread nD τ) (st1_1 t) fullShare ((somDat V c).before 1 t d))
    ∗ (∃ d, owns (c : Thread nD τ) (st1_2 t) fullShare ((somDat V c).before 2 t d))
    ∗ (∃ d, owns (c : Thread nD τ) (st1_3 t) fullShare ((somDat V c).before 3 t d))
    ∗ (∃ d, owns (c : Thread nD τ) (st1_4 t) fullShare ((somDat V c).before 4 t d))
    ∗ (∃ d, owns (c : Thread nD τ) (st1_5 t) fullShare ((somDat V c).before 5 t d))
    ∗ (∃ d, owns (c : Thread nD τ) (st1_6 t) fullShare ((somDat V c).before 6 t d))
    ∗ (∃ d, owns (c : Thread nD τ) (st1_7 t) fullShare ((somDat V c).before 7 t d))
    ∗ (∃ d, owns (c : Thread nD τ) (st1_8 t) fullShare ((somDat V c).before 8 t d))
    ∗ (∃ d, owns (c : Thread nD τ) (st1_9 t) fullShare ((somDat V c).before 9 t d))
    ∗ (∃ d, owns (c : Thread nD τ) (st1_10 t) fullShare ((somDat V c).before 10 t d))
    ∗ (∃ d, owns (c : Thread nD τ) (st1_11 t) fullShare ((somDat V c).before 11 t d))
    ∗ (∃ d, owns (c : Thread nD τ) (st1_12 t) fullShare ((somDat V c).before 12 t d))
    ∗ (∃ d, owns (c : Thread nD τ) (st1_13 t) fullShare ((somDat V c).before 13 t d))
    ∗ (∃ d, owns (c : Thread nD τ) (st1_14 t) fullShare ((somDat V c).before 14 t d))
    ∗ (∃ d, owns (c : Thread nD τ) (st1_15 t) fullShare ((somDat V c).before 15 t d))
    ∗ (∃ d, owns (c : Thread nD τ) (st1_16 t) fullShare ((somDat V c).before 16 t d))
    ∗ (∃ d, owns (c : Thread nD τ) (st1_17 t) fullShare ((somDat V c).before 17 t d))
    ∗ (∃ d, owns (c : Thread nD τ) (st1_18 t) fullShare ((somDat V c).before 18 t d))
    ∗ (∃ d, owns (c : Thread nD τ) (st1_19 t) fullShare ((somDat V c).before 19 t d))
    ∗ (∃ d, owns (c : Thread nD τ) (st1_20 t) fullShare ((somDat V c).before 20 t d))
    ∗ (∃ d, owns (c : Thread nD τ) (st1_21 t) fullShare ((somDat V c).before 21 t d))
    ∗ (∃ d, owns (c : Thread nD τ) (st1_22 t) fullShare ((somDat V c).before 22 t d)))

/-- and what it leaves. -/
def somPost (c : Dev nD) (t : Fin cfg1.N) : sProp 𝕄 :=
  iprop((somDat V c).Φ t.succ ∗ (somDat V c).owesAt () t.succ
    ∗ (somDat V c).leavesExact 0 t ∗ (somDat V c).leavesExact 1 t ∗ (somDat V c).leavesExact 2 t ∗ (somDat V c).leavesExact 3 t ∗ (somDat V c).leavesExact 4 t
    ∗ (somDat V c).leavesExact 5 t ∗ (somDat V c).leavesExact 6 t ∗ (somDat V c).leavesExact 7 t ∗ (somDat V c).leavesExact 8 t ∗ (somDat V c).leavesExact 9 t
    ∗ (somDat V c).leavesExact 10 t ∗ (somDat V c).leavesExact 11 t ∗ (somDat V c).leavesExact 12 t ∗ (somDat V c).leavesExact 13 t ∗ (somDat V c).leavesExact 14 t
    ∗ (somDat V c).leavesExact 15 t ∗ (somDat V c).leavesExact 16 t ∗ (somDat V c).leavesExact 17 t ∗ (somDat V c).leavesExact 18 t ∗ (somDat V c).leavesExact 19 t
    ∗ (somDat V c).leavesExact 20 t ∗ (somDat V c).leavesExact 21 t ∗ (somDat V c).leavesExact 22 t)

/-- The results' buffers at point `t` hold what they may hold before the body runs. -/
def SomHeld (c : Dev nD) (t : Fin cfg1.N) (o : SomOut F) : Prop :=
  ∃ d20 d21 d22, o = ⟨(somDat V c).before 20 t d20, (somDat V c).before 21 t d21, (somDat V c).before 22 t d22⟩

theorem som_leaves_in (c : Dev nD) (w : Fin 23) (hw : w.val < 20) (t : Fin cfg1.N) : (somDat V c).leavesExact w t =
    owns (c : Thread nD τ) ((cfg1.win w).stage (cfg1.slots t w)) fullShare ((somDat V c).after w t) := by
  unfold Dat.leavesExact; rw [som_in_live w hw]
theorem som_leaves_last (c : Dev nD) (w : Fin 23) (hw : 20 ≤ w.val) (t : Fin cfg1.N) (h : t.val = 13) : (somDat V c).leavesExact w t =
    owns (c : Thread nD τ) ((cfg1.win w).stage (cfg1.slots t w)) fullShare ((somDat V c).after w t) := by
  unfold Dat.leavesExact; rw [som_out_live w hw t h]
theorem som_leaves_out (c : Dev nD) (w : Fin 23) (hw : 20 ≤ w.val) (t : Fin cfg1.N) (h : t.val ≠ 13) : (somDat V c).leavesExact w t =
    iprop(∃ d, owns (c : Thread nD τ) ((cfg1.win w).stage (cfg1.slots t w)) fullShare ((somDat V c).before w t d)) :=
  Dat.leavesExact_idle (somDat V c) w t (som_out_idle w hw t h).1 (som_out_idle w hw t h).2

set_option maxHeartbeats 4800000 in
/-- The inputs' windows before the body are the blocks, -/
theorem som_fetched (c : Dev nD) (t : Fin cfg1.N) : somPre V c t ⊢ iprop((somDat V c).Φ t.castSucc ∗ (somDat V c).owesAt () t.castSucc
    ∗ ∃ o, ⌜SomHeld V c t o⌝ ∗ somWins V c t o) := by
  unfold somPre somWins
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  isplitl [HΦ]; · iexact HΦ
  isplitl [Ho]; · iexact Ho
  iexists (⟨(somDat V c).before 20 t d20, (somDat V c).before 21 t d21, (somDat V c).before 22 t d22⟩ : SomOut F)
  isplitr; · ipureintro; exact ⟨d20, d21, d22, rfl⟩
  rw [som_before V c 0 (by decide), som_before V c 1 (by decide), som_before V c 2 (by decide), som_before V c 3 (by decide), som_before V c 4 (by decide), som_before V c 5 (by decide), som_before V c 6 (by decide), som_before V c 7 (by decide), som_before V c 8 (by decide), som_before V c 9 (by decide), som_before V c 10 (by decide), som_before V c 11 (by decide), som_before V c 12 (by decide), som_before V c 13 (by decide), som_before V c 14 (by decide), som_before V c 15 (by decide), som_before V c 16 (by decide), som_before V c 17 (by decide), som_before V c 18 (by decide), som_before V c 19 (by decide)]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

set_option maxHeartbeats 4800000 in
/-- and after the body the results are as before, or at `somRes` after the last point. -/
theorem som_left (c : Dev nD) (t : Fin cfg1.N) (o : SomOut F) (h13 : t.val = 13 → o = somRes V c t)
    (hne : t.val ≠ 13 → SomHeld V c t o) :
    iprop((somDat V c).Φ t.succ ∗ (somDat V c).owesAt () t.succ ∗ somWins V c t o) ⊢ somPost V c t := by
  unfold somPost somWins
  rw [som_leaves_in V c 0 (by decide), som_leaves_in V c 1 (by decide), som_leaves_in V c 2 (by decide), som_leaves_in V c 3 (by decide), som_leaves_in V c 4 (by decide), som_leaves_in V c 5 (by decide), som_leaves_in V c 6 (by decide), som_leaves_in V c 7 (by decide), som_leaves_in V c 8 (by decide), som_leaves_in V c 9 (by decide), som_leaves_in V c 10 (by decide), som_leaves_in V c 11 (by decide), som_leaves_in V c 12 (by decide), som_leaves_in V c 13 (by decide), som_leaves_in V c 14 (by decide), som_leaves_in V c 15 (by decide), som_leaves_in V c 16 (by decide), som_leaves_in V c 17 (by decide), som_leaves_in V c 18 (by decide), som_leaves_in V c 19 (by decide)]
  iintro ⟨HΦ, Ho, H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  by_cases h : t.val = 13
  · rw [h13 h, som_leaves_last V c 20 (by decide) t h, som_leaves_last V c 21 (by decide) t h, som_leaves_last V c 22 (by decide) t h,
      som_after20, som_after21, som_after22]
    isplitl [H20]; · iexact H20
    isplitl [H21]; · iexact H21
    iexact H22
  · obtain ⟨d20, d21, d22, rfl⟩ := hne h
    rw [som_leaves_out V c 20 (by decide) t h, som_leaves_out V c 21 (by decide) t h, som_leaves_out V c 22 (by decide) t h]
    isplitl [H20]; · iexists d20; iexact H20
    isplitl [H21]; · iexists d21; iexact H21
    iexists d22; iexact H22

set_option maxHeartbeats 4800000 in
/-- The body at point `t`, by which of its branches run there. -/
theorem som_point (c : Dev nD) (t : Fin cfg1.N) (s s' : SomAcc F) (o o' : SomOut F)
    (hcase : SomCase (grid1.coords t) (somIn V c t) s s' o o') (K : PUnit → sProp 𝕄) :
    iprop(somWins V c t o ∗ owns (c : Thread nD τ) somScr0 fullShare s.g ∗ owns (c : Thread nD τ) somScr1 fullShare s.sx
      ∗ owns (c : Thread nD τ) somScr2 fullShare s.sy
      ∗ ((somWins V c t o' ∗ owns (c : Thread nD τ) somScr0 fullShare s'.g ∗ owns (c : Thread nD τ) somScr1 fullShare s'.sx
      ∗ owns (c : Thread nD τ) somScr2 fullShare s'.sy) -∗ K ⟨⟩))
    ⊢ wp frame (wpE (defs₀ (F := F)) Variants.none c none) Set.univ (bodyAt1 t) K := by
  unfold bodyAt1
  unfold somWins
  iintro ⟨⟨H0, H1, H2, H3, H4, H5, H6, H7, H8, H9, H10, H11, H12, H13, H14, H15, H16, H17, H18, H19, H20, H21, H22⟩, S0, S1, S2, HK⟩
  iapply (som_run c (grid1.coords t) _ _ _ _ _ _ _ _ _ _ _ _ _ _ _ _ _ _ _ _ _ _ _ _ _ _ _ _ _ _ _ _ _ _ _ _ _ _ _ _ _ _ _ _ _ _ _ _ _ _ _ _ (somIn V c t) s s' o o' hcase Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [S0]; · iexact S0
  isplitl [S1]; · iexact S1
  isplitl [S2]; · iexact S2
  iintro ⟨H0, H1, H2, H3, H4, H5, H6, H7, H8, H9, H10, H11, H12, H13, H14, H15, H16, H17, H18, H19, H20, H21, H22, S0, S1, S2⟩
  iapply HK
  isplitr [S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitl [S0]; · iexact S0
  isplitl [S1]; · iexact S1
  iexact S2

/-- The body at any point. -/
theorem som_sound (c : Dev nD) (t : Fin cfg1.N) :
    somPre V c t ⊢ wp frame (wpE (defs₀ (F := F)) Variants.none c none) Set.univ (bodyAt1 t) (fun _ => somPost V c t) := by
  refine (som_fetched V c t).trans ?_
  rw [somPhi_castSucc]
  have hnext : ∀ o', (t.val = 13 → o' = somRes V c t) → (t.val ≠ 13 → SomHeld V c t o') →
      iprop((((owns (c : Thread nD τ) somScr0 fullShare (somAt V c t.val t.isLt).g ∗ owns (c : Thread nD τ) somScr1 fullShare (somAt V c t.val t.isLt).sx ∗ owns (c : Thread nD τ) somScr2 fullShare (somAt V c t.val t.isLt).sy)
      ∗ Pipeline.scopedRestBut (Ix := Unit) (Name := ℕ) (U := UR sig nD τ) (Lvl := ℕ) (Val := Elt F) spec1 c [cc1_scratch0, cc1_scratch1, cc1_scratch2]) ∗ (∃ r, prngReg c r)) ∗ (somDat V c).owesAt () t.castSucc ∗ somWins V c t o') ⊢ somPost V c t := by
    intro o' h1 h2
    refine BIBase.Entails.trans ?_ (som_left V c t o' h1 h2)
    rw [show (somDat V c).owesAt () t.succ = (somDat V c).owesAt () t.castSucc from rfl,
      show (somDat V c).Φ t.succ = somPhi V c (t.val + 1) t.isLt from rfl, somPhi_pos V c (t.val + 1) t.isLt (Nat.succ_ne_zero _)]
    exact .rfl
  by_cases h0 : t.val = 0
  · rw [somPhi_zero V c _ _ h0]
    iintro ⟨⟨⟨⟨⟨%g, G⟩, ⟨%sx, SX⟩, ⟨%sy, SY⟩⟩, Hr⟩, Hg⟩, Ho, ⟨%o, %ho, HW⟩⟩
    iapply (som_point V c t ⟨g, sx, sy⟩ (somAt V c t.val t.isLt) o o (Or.inl ⟨(somFirst_iff t).mpr h0,
      fun h => (somLater_iff t).mp h h0, fun h => by have := (somLast_iff t).mp h; omega, somAt_zero V c t h0, rfl⟩))
    isplitl [HW]; · iexact HW
    isplitl [G]; · iexact G
    isplitl [SX]; · iexact SX
    isplitl [SY]; · iexact SY
    iintro ⟨HW, S⟩
    iapply (hnext o (fun h => by omega) (fun _ => ho))
    isplitl [S Hr Hg]
    · isplitr [Hg]
      · isplitl [S]; · iexact S
        iexact Hr
      iexact Hg
    isplitl [Ho]; · iexact Ho
    iexact HW
  · rw [somPhi_pos V c _ _ h0]
    iintro ⟨⟨⟨⟨G, SX, SY⟩, Hr⟩, Hg⟩, Ho, ⟨%o, %ho, HW⟩⟩
    by_cases h13 : t.val = 13
    · iapply (som_point V c t _ (somAt V c t.val t.isLt) o (somRes V c t) (Or.inr (Or.inr ⟨fun h => h0 ((somFirst_iff t).mp h),
        (somLater_iff t).mpr h0, (somLast_iff t).mpr h13, somAt_pos V c t h0, by rw [somRes, somAt_pos V c t h0]⟩)))
      isplitl [HW]; · iexact HW
      isplitl [G]; · iexact G
      isplitl [SX]; · iexact SX
      isplitl [SY]; · iexact SY
      iintro ⟨HW, S⟩
      iapply (hnext (somRes V c t) (fun _ => rfl) (fun h => absurd h13 h))
      isplitl [S Hr Hg]
      · isplitr [Hg]
        · isplitl [S]; · iexact S
          iexact Hr
        iexact Hg
      isplitl [Ho]; · iexact Ho
      iexact HW
    · iapply (som_point V c t _ (somAt V c t.val t.isLt) o o (Or.inr (Or.inl ⟨fun h => h0 ((somFirst_iff t).mp h),
        (somLater_iff t).mpr h0, fun h => h13 ((somLast_iff t).mp h), somAt_pos V c t h0, rfl⟩)))
      isplitl [HW]; · iexact HW
      isplitl [G]; · iexact G
      isplitl [SX]; · iexact SX
      isplitl [SY]; · iexact SY
      iintro ⟨HW, S⟩
      iapply (hnext o (fun h => absurd h h13) (fun _ => ho))
      isplitl [S Hr Hg]
      · isplitr [Hg]
        · isplitl [S]; · iexact S
          iexact Hr
        iexact Hg
      isplitl [Ho]; · iexact Ho
      iexact HW

theorem som_row (t : Fin cfg1.N) : defs₀ (F := F) .tc cfg1.body (cfg1.bodyArgs t (cfg1.slots t)) = bodyAt1 t := by
  unfold defs₀; rw [Defs.onTc_tc]

/-- The body meets the pipeline's obligation at every point. -/
theorem som_obligation (c : Dev nD) : BodyObligation (somDat (F := F) V c) (defs₀ (F := F)) Variants.none () Set.univ := fun t => by
  rw [bigSep_W1, bigSep_W1, som_row]
  exact triple_restated (som_sound V c t) rfl .rfl fun _ => .rfl

/-- What the region is given is what is kept before the first point, -/
theorem som_in (c : Dev nD) : Pipeline.ΦA spec1 c ⊢ (somDat V c).Φ 0 := by
  rw [show (somDat V c).Φ 0 = Pipeline.ΦA spec1 c from rfl]

/-- and what is kept after the last point gives it back. -/
theorem som_out (c : Dev nD) : (somDat V c).Φ (Fin.last cfg1.N) ⊢ Pipeline.ΦA spec1 c := by
  rw [show (somDat V c).Φ (Fin.last cfg1.N) = somPhi V c cfg1.N (le_refl _) from rfl,
    somPhi_pos V c _ _ (by rw [show cfg1.N = 14 from N_1]; decide),
    show (Pipeline.ΦA spec1 c : sProp 𝕄) = somPhi V c 0 (Nat.zero_le _) from rfl, somPhi_zero V c 0 _ rfl]
  iintro ⟨⟨⟨G, SX, SY⟩, Hr⟩, Hg⟩
  isplitl [G SX SY Hr]
  · isplitl [G SX SY]
    · isplitl [G]; · iexists _; iexact G
      isplitl [SX]; · iexists _; iexact SX
      iexists _; iexact SY
    iexact Hr
  iexact Hg

end Cert.Som

end
-- ==== Proof.Launch.lean ====
/- The kernel's run, over any interpretation of its operations: what every buffer that outlives the run holds at the end, and
   so that the arguments end as they began. The launch's set-up follows the library's for a program of several calls. -/
module

public import proofs.«01_k».proof.Proof.Mse
public import proofs.«01_k».proof.Proof.Som
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Som

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the steps of the run -/

/-- At the launch, -/
abbrev B0 (c : Dev nD) : Valuation τ sig (Elt F) := fun b => (s₀ m ρ).mem ((c : Dev nD), b)
/-- after the reshapes and the transpose ahead of the calls, -/
def B1 (c : Dev nD) : Valuation τ sig (Elt F) := StableHlo.after hostOps0 (B0 m ρ c)
/-- read at the references the first call takes. -/
abbrev C1 : (c : Dev nD) → (b : Ref sig .tc) → Buf (Elt F) ((c : Thread nD τ).loc b) := fun c b => B1 m ρ c b

/-- After call 0: its arrays at what it leaves, every other buffer as before. -/
def B2 (c : Dev nD) : Valuation τ sig (Elt F) :=
  Pipeline.withArrays spec0 c (B1 m ρ c) fun w => (mseDat (C1 m ρ) c).arrAt w cfg0.N
theorem B2_arr (c : Dev nD) (w : Fin cfg0.W) :
    B2 m ρ c (Proc.devRef .tc (Pipeline.arrRef spec0 w)) = (mseDat (C1 m ρ) c).arrAt w cfg0.N := by
  unfold B2; exact (mseDat (C1 m ρ) c).withArrays_arrAt launch0.to₀.sharedIn _ (mseDat_A (C1 m ρ) c) w
theorem B2_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- A buffer that is none of the call's results is as before. -/
theorem B2_keep (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    exact (B2_arr m ρ c w).trans (((mseDat (C1 m ρ) c).arrAt_in w (h w rfl) _).trans (mseDat_A (C1 m ρ) c w))
  · exact B2_ne m ρ c r fun w e => hw ⟨w, e⟩

/-- Read at the references the second call takes. -/
abbrev C2 : (c : Dev nD) → (b : Ref sig .tc) → Buf (Elt F) ((c : Thread nD τ).loc b) := fun c b => B2 m ρ c b

/-- After call 1: its arrays at what it leaves, every other buffer as before. -/
def B3 (c : Dev nD) : Valuation τ sig (Elt F) :=
  Pipeline.withArrays spec1 c (B2 m ρ c) fun w => (somDat (C2 m ρ) c).arrAt w cfg1.N
theorem B3_arr (c : Dev nD) (w : Fin cfg1.W) :
    B3 m ρ c (Proc.devRef .tc (Pipeline.arrRef spec1 w)) = (somDat (C2 m ρ) c).arrAt w cfg1.N := by
  unfold B3; exact (somDat (C2 m ρ) c).withArrays_arrAt launch₀1.sharedIn _ (somDat_A (C2 m ρ) c) w
theorem B3_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
/-- A buffer that is none of the call's results is as before. -/
theorem B3_keep (c : Dev nD) (r : Ref sig .tc) (h : ∀ w : Fin cfg1.W, Pipeline.arrRef spec1 w = r → (cfg1.win w).isOut = false) :
    B3 m ρ c (Proc.devRef .tc r) = B2 m ρ c (Proc.devRef .tc r) := by
  by_cases hw : ∃ w : Fin cfg1.W, Pipeline.arrRef spec1 w = r
  · obtain ⟨w, rfl⟩ := hw
    exact (B3_arr m ρ c w).trans (((somDat (C2 m ρ) c).arrAt_in w (h w rfl) _).trans (somDat_A (C2 m ρ) c w))
  · exact B3_ne m ρ c r fun w e => hw ⟨w, e⟩

/-- At the end, after the reshapes behind the calls. -/
def B4 (c : Dev nD) : Valuation τ sig (Elt F) := StableHlo.after hostOps2 (B3 m ρ c)

/-- The kernel's arguments. -/
abbrev argRefs : List (Ref sig .tc) := [main_arg0, main_arg1, main_arg2, main_arg3, main_arg4, main_arg5, main_arg6]
theorem args_host0 : ∀ a ∈ argRefs, a ∉ hostOps0_W := ListAll.forall_mem_of_all_decide (by decide +kernel)
theorem args_call0 : ∀ a ∈ argRefs, ∀ w : Fin cfg0.W, Pipeline.arrRef spec0 w = a → (cfg0.win w).isOut = false :=
  ListAll.forall_mem_of_all_decide (by decide +kernel)
theorem args_call1 : ∀ a ∈ argRefs, ∀ w : Fin cfg1.W, Pipeline.arrRef spec1 w = a → (cfg1.win w).isOut = false :=
  ListAll.forall_mem_of_all_decide (by decide +kernel)
theorem args_host2 : ∀ a ∈ argRefs, a ∉ hostOps2_W := ListAll.forall_mem_of_all_decide (by decide +kernel)

/-- An argument is as at the launch when the first call starts, -/
theorem B1_arg (c : Dev nD) (a : Ref sig .tc) (ha : a ∈ argRefs) : B1 m ρ c (Proc.devRef .tc a) = m ((c : Thread nD τ).loc a) :=
  V1_of m c a (args_host0 a ha)
/-- when the second call starts, -/
theorem B2_arg (c : Dev nD) (a : Ref sig .tc) (ha : a ∈ argRefs) : B2 m ρ c (Proc.devRef .tc a) = m ((c : Thread nD τ).loc a) :=
  (B2_keep m ρ c a (args_call0 a ha)).trans (B1_arg m ρ c a ha)
/-- and at the end. -/
theorem B4_arg (c : Dev nD) (a : Ref sig .tc) (ha : a ∈ argRefs) : B4 m ρ c (Proc.devRef .tc a) = m ((c : Thread nD τ).loc a) :=
  (StableHlo.after_of_writes_sub hostOps2 _ hostOps2_writes (args_host2 a ha)).trans
    ((B3_keep m ρ c a (args_call1 a ha)).trans (B2_arg m ρ c a ha))

/-! ## The steps -/

/-- The calls prefetch no tables. -/
abbrev tables : (p : Fin 2) → (pcfgs (F := F) p).Adm := fun p => (cfgs p).toPCfg_adm
/-- Each call's data at the contents it is entered with. -/
def datas : (p : Fin 2) → (c : Dev nD) → Dat τ (Elt F) Unit ℕ (UR sig nD τ) ℕ (Pipeline.pin (pcfgs (F := F)) tables p) c
  | ⟨0, _⟩ => fun c => mseDat (C1 m ρ) c
  | ⟨1, _⟩ => fun c => somDat (C2 m ρ) c
/-- Nothing is owed to another core. -/
abbrev levels : GSem nD τ sig → Finset Unit := fun _ => ∅
abbrev order : GSem nD τ sig → Unit → ℕ := fun _ _ => 0
/-- What is kept beside the buffers through every step: the generator register and that nothing is owed. -/
abbrev beside (c : Dev nD) : sProp 𝕄 := iprop((∃ r, prngReg c r) ∗ ∃ W, owes (c : Thread nD τ) (0 : CellTallies nD τ sig Unit) W)
/-- A stretch of host operations, run from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none levels order :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the run ends with: every buffer that outlives it at `B4`. -/
abbrev atEnd (c : Dev nD) : sProp 𝕄 := iprop(StableHlo.held (c : Thread nD τ) (Pipeline.ucRefs τ sig) (B4 m ρ c) ∗ ∃ r, prngReg c r)

-- `iapply` of a library lemma stated over `pin pcs a p` unifies with the pinned configuration only when unification may
-- unfold plain definitions in a metavariable's type
set_option backward.isDefEq.respectTransparency.types false in
/-- Call 0 of the kernel, entered from every unscoped buffer at `B1` and left at `B2`. -/
def call0 : Pipeline.RegionSeg (pcfgs (F := F)) tables (datas m ρ) () defs₀ Variants.none levels order 0 where
  win := launch0.to₀.win
  block_pos := launch0.to₀.block_pos
  stage_whole := launch0.to₀.stage_whole
  K := PEmpty
  osem k := k.elim
  ho := Pipeline.OwnSemFacts.none _
  hbody c := (mse_obligation (C1 m ρ) c).loose
  hwaits := Pipeline.hwaits_of_owed_zero _ _ _ _ levels order 0 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec0 c (C1 m ρ c)
  hentry c := by
    rw [Pipeline.ownSems0_none]
    have hsplit := Pipeline.arrays_of_unscopedBufs_shared (p := 0) (pcfgs (F := F)) tables (datas m ρ) launch0.to₀.win launch0.to₀.sharedIn
      launch0.to₀.arr_whole c (fun _ _ => rfl) (C1 m ρ c) (mseDat_A (C1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (mse_in (C1 m ρ) c)
    unfold Pipeline.ΦA
    iintro ⟨Hp, -, Hr⟩
    isplitl [Hr]; · iexact Hr
    iexact Hp
  hout c := by
    refine BIBase.Entails.trans (mse_out (C1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) tables (Ix := Unit) (Name := ℕ) (U := UR sig nD τ)
      (Lvl := ℕ) launch0.to₀.win launch0.to₀.sharedIn launch0.to₀.arr_whole c (datas m ρ) (fun _ _ => rfl)
      (C1 m ρ c) (fun b => B2 m ρ c b) ((datas m ρ 0 c).arrAt · cfg0.N) (fun w => (B2_arr m ρ c w).symm)
      (fun b hb => B2_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Call 1 of the kernel, entered from every unscoped buffer at `B2` and left at `B3`. -/
def call1 : Pipeline.RegionSeg (pcfgs (F := F)) tables (datas m ρ) () defs₀ Variants.none levels order 1 where
  win := launch₀1.win
  block_pos := launch₀1.block_pos
  stage_whole := launch₀1.stage_whole
  K := PEmpty
  osem k := k.elim
  ho := Pipeline.OwnSemFacts.none _
  hbody c := (som_obligation (C2 m ρ) c).loose
  hwaits := Pipeline.hwaits_of_owed_zero _ _ _ _ levels order 1 fun _ _ => rfl
  pre c := iprop(StableHlo.held (c : Thread nD τ) (Pipeline.ucRefs τ sig) (B2 m ρ c) ∗ beside c)
  post c := iprop(StableHlo.held (c : Thread nD τ) (Pipeline.ucRefs τ sig) (B3 m ρ c) ∗ beside c)
  X c := iprop(∃ r, prngReg c r)
  Y c := iprop(∃ r, prngReg c r)
  Z c := Pipeline.unscopedRest (Ix := Unit) (Name := ℕ) (U := UR sig nD τ) (Lvl := ℕ) spec1 c (C2 m ρ c)
  hentry c := by
    rw [Pipeline.ownSems0_none]
    have hsplit := Pipeline.arrays_of_unscopedBufs_shared (p := 1) (pcfgs (F := F)) tables (datas m ρ) launch₀1.win launch₀1.sharedIn
      launch₀1.arr_whole c (fun _ _ => rfl) (C2 m ρ c) (somDat_A (C2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (som_in (C2 m ρ) c)
    unfold Pipeline.ΦA
    iintro ⟨Hp, -, Hr⟩
    isplitl [Hr]; · iexact Hr
    iexact Hp
  hout c := by
    refine BIBase.Entails.trans (som_out (C2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) tables (Ix := Unit) (Name := ℕ) (U := UR sig nD τ)
      (Lvl := ℕ) launch₀1.win launch₀1.sharedIn launch₀1.arr_whole c (datas m ρ) (fun _ _ => rfl)
      (C2 m ρ c) (fun b => B3 m ρ c b) ((datas m ρ 1 c).arrAt · cfg1.N) (fun w => (B3_arr m ρ c w).symm)
      (fun b hb => B3_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four steps. -/
abbrev steps : List (Pipeline.Seg (pcfgs (F := F)) tables (datas m ρ) () defs₀ Variants.none levels order) :=
  [ .host (stretch hostOps0 hostOps0_sub hostOps0_fresh (B0 m ρ)),
    .region (call0 m ρ),
    .region (call1 m ρ),
    .host (stretch hostOps2 hostOps2_sub hostOps2_fresh (B3 m ρ)) ]
/-- The program is the run of its steps. -/
theorem main_steps (c : Dev nD) : main (F := F) c = Pipeline.Seg.run (steps m ρ) := (main_chain c).trans (by chain_rfl)
theorem sems_scoped : ∀ sm : SemLoc sig, sm.isScoped .tc = true := by decide

-- the launch theorem's implicit arguments are found by unifying its conclusion with this one, which takes unfolding plain
-- definitions in a metavariable's type
set_option backward.isDefEq.respectTransparency.types false in
/-- Every run ends, with every buffer that outlives it at `B4` and every semaphore counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = B4 m ρ c b) ∧ r.2.sem = fun _ => 0) :=
  Pipeline.θ_run_regions_kit_sems (pcfgs (F := F)) tables (datas m ρ) () cellOf_inj emb₁ defs₀ Variants.none levels order m ρ main (steps m ρ)
    (fun c Q => by rw [main_steps m ρ c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl, fun _ => .rfl, fun c => by
      change iprop(StableHlo.held (c : Thread nD τ) (Pipeline.ucRefs τ sig) (B4 m ρ c) ∗ beside c) ⊢ _
      iintro ⟨Hh, Hp, HO⟩
      isplitl [Hh Hp]
      · isplitl [Hh]; · iexact Hh
        iexact Hp
      iexact HO⟩)
    (hinit := by
      refine Pipeline.initEach levels order fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h hz => ⟨h, funext fun g => hz g (.inr (sems_scoped g.2))⟩)

/-- So the arguments end as they began. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c _ (mem_ucRefs main_arg0 (by decide))).trans (B4_arg m ρ c main_arg0 (by decide)),
    (h.1 c _ (mem_ucRefs main_arg1 (by decide))).trans (B4_arg m ρ c main_arg1 (by decide)),
    (h.1 c _ (mem_ucRefs main_arg2 (by decide))).trans (B4_arg m ρ c main_arg2 (by decide)),
    (h.1 c _ (mem_ucRefs main_arg3 (by decide))).trans (B4_arg m ρ c main_arg3 (by decide)),
    (h.1 c _ (mem_ucRefs main_arg4 (by decide))).trans (B4_arg m ρ c main_arg4 (by decide)),
    (h.1 c _ (mem_ucRefs main_arg5 (by decide))).trans (B4_arg m ρ c main_arg5 (by decide)),
    (h.1 c _ (mem_ucRefs main_arg6 (by decide))).trans (B4_arg m ρ c main_arg6 (by decide))⟩, h.2⟩) (run m ρ)

end Cert.Som

end
-- ==== Proof.KernelFrame.lean ====
/- The frame of the printed kernel. The kernel and its idealized print are the same program but for the literal the ideal print
   names, so the run of the ideal print, with its one named constant read as the literal, is the kernel's own run. -/
module

public import proofs.«01_k».proof.Proof.Launch
public import proofs.«01_k».proof.Proof.Gen.Kernel
public import Idealize.ShloMosaic.Lib.Tactic
public import Idealize.ShloMosaic.PureOps.BitExact

@[expose] public section

noncomputable section

namespace Cert.Som

open Idealize.ShloMosaic Idealize.ShloMosaic.Tactic Idealize.SL.Sem

/-- Named constants read as the literals they are written next to. -/
@[reducible] def litNamed : Named Bits := ⟨fun _ _ {φ} b => FloatOps.ofBits φ b⟩

/-- The kernel ends, its arguments and semaphore counters as at the start, -/
def KernelFrame (m : (ℓ : Loc Cert.Kernel.nD Cert.Kernel.τ Cert.Kernel.sig) → Buf (Elt Bits) ℓ) (g : Dev Cert.Kernel.nD → PrngReg) : Prop :=
  θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

/-- and the same of its idealized print with the named constant read as the literal. -/
def IdealFrame (m : (ℓ : Loc Cert.KernelIdeal.nD Cert.KernelIdeal.τ Cert.KernelIdeal.sig) → Buf (Elt Bits) ℓ)
    (g : Dev Cert.KernelIdeal.nD → PrngReg) : Prop :=
  letI := litNamed
  θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- The two say the same, -/
theorem frames_same : @KernelFrame = @IdealFrame := by sl_kernel_rfl

/-- so the first holds because the second does. -/
theorem kernel_frame : @KernelFrame = fun _ _ => True := by
  rw [frames_same]
  funext m g
  exact eq_true (letI := litNamed; unchanged m g)

end Cert.Som

end
-- ==== Proof.Ref.lean ====
/- The reference's run: its operations as a list, and what they leave in the three results, as functions of the arguments. -/
module

public import proofs.«01_k».proof.Proof.Gen.ReferenceIdeal
public import Idealize.ShloMosaic.Lib.StableHlo.Run
public import Idealize.ShloMosaic.Init
public import Idealize.ShloMosaic.Adequacy

@[expose] public section

set_option maxRecDepth 8192

noncomputable section

namespace Cert.Som.Ref

open Cert.ReferenceIdeal Cert.ReferenceIdeal.Gen Idealize.ShloMosaic Idealize.ShloMosaic.TcCoe Idealize.SL.Sem Idealize.ShloMosaic.StableHlo

variable {F : FTy → Type} [FloatOps F]

/-- The operations up to the distances, -/
abbrev opsA : List (HloOp τ sig (Elt F)) :=
  [ binary main_arg0 main_arg1 main_v0 (subf : (⟨S64x3x224x224, .f32⟩ : BufTy).Contents (Elt F) → (⟨S64x3x224x224, .f32⟩ : BufTy).Contents (Elt F) → (⟨S64x3x224x224, .f32⟩ : BufTy).Contents (Elt F)),
    binary main_v0 main_v0 main_v1 (mulf : (⟨S64x3x224x224, .f32⟩ : BufTy).Contents (Elt F) → (⟨S64x3x224x224, .f32⟩ : BufTy).Contents (Elt F) → (⟨S64x3x224x224, .f32⟩ : BufTy).Contents (Elt F)),
    nullary main_cst (constant S_ .f32 0x00000000#32),
    binary main_v1 main_cst main_v2 ((fun x v => Host.reduceAdd x v reducesTo_S64x3x224x224_S_d0_1_2_3 h_S_) : (⟨S64x3x224x224, .f32⟩ : BufTy).Contents (Elt F) → (⟨S_, .f32⟩ : BufTy).Contents (Elt F) → (⟨S_, .f32⟩ : BufTy).Contents (Elt F)),
    nullary main_cst_0 (constant S_ .f32 0x4B130000#32),
    binary main_v2 main_cst_0 main_v3 (Host.divf : (⟨S_, .f32⟩ : BufTy).Contents (Elt F) → (⟨S_, .f32⟩ : BufTy).Contents (Elt F) → (⟨S_, .f32⟩ : BufTy).Contents (Elt F)),
    unary main_arg2 main_v4 ((extractStridedSlice S64x196x384 ![0, 1, 0] · slices_S64x197x384_S64x196x384_0_1_0) : (⟨S64x197x384, .f32⟩ : BufTy).Contents (Elt F) → (⟨S64x196x384, .f32⟩ : BufTy).Contents (Elt F)),
    reshape main_v4 main_v5 (rfl : (.f32 : EltTy) = .f32) shapeCasts_S64x196x384_S64x75264,
    TRef.binary (TRef.of (T := ⟨S64x75264, .f32⟩) main_v5) (TRef.of (T := ⟨S64x75264, .f32⟩) main_v5) (TRef.of (T := ⟨S64x75264, .f32⟩) main_call0_v0) mulf,
    TRef.nullary (TRef.of (T := ⟨S_, .f32⟩) main_call0_cst) (constant S_ .f32 0x00000000#32),
    TRef.binary (TRef.of (T := ⟨S64x75264, .f32⟩) main_call0_v0) (TRef.of (T := ⟨S_, .f32⟩) main_call0_cst) (TRef.of (T := ⟨S64, .f32⟩) main_call0_v1) (fun x v => Host.reduceAdd x v reducesTo_S64x75264_S64_d1 h_S_),
    TRef.unary (TRef.of (T := ⟨S64, .f32⟩) main_call0_v1) (TRef.of (T := ⟨S64x1, .f32⟩) main_call0_v2) (broadcastInDim S64x1 ![0] bcast_S64_S64x1_0),
    TRef.unary (TRef.of (T := ⟨S64x1, .f32⟩) main_call0_v2) (TRef.of (T := ⟨S64x1, .f32⟩) main_v6) Host.sqrt,
    nullary main_cst_1 (constant S_ .f32 0x322BCC77#32),
    unary main_cst_1 main_v7 (broadcastInDim S64x1 ![] bcast_S_S64x1 : (⟨S_, .f32⟩ : BufTy).Contents (Elt F) → (⟨S64x1, .f32⟩ : BufTy).Contents (Elt F)),
    binary main_v6 main_v7 main_v8 (addf : (⟨S64x1, .f32⟩ : BufTy).Contents (Elt F) → (⟨S64x1, .f32⟩ : BufTy).Contents (Elt F) → (⟨S64x1, .f32⟩ : BufTy).Contents (Elt F)),
    unary main_v8 main_v9 (broadcastInDim S64x75264 ![0, 1] bcast_S64x1_S64x75264_0_1 : (⟨S64x1, .f32⟩ : BufTy).Contents (Elt F) → (⟨S64x75264, .f32⟩ : BufTy).Contents (Elt F)),
    binary main_v5 main_v9 main_v10 (Host.divf : (⟨S64x75264, .f32⟩ : BufTy).Contents (Elt F) → (⟨S64x75264, .f32⟩ : BufTy).Contents (Elt F) → (⟨S64x75264, .f32⟩ : BufTy).Contents (Elt F)),
    TRef.binary (TRef.of (T := ⟨S512x75264, .f32⟩) main_arg3) (TRef.of (T := ⟨S512x75264, .f32⟩) main_arg3) (TRef.of (T := ⟨S512x75264, .f32⟩) main_call1_v0) mulf,
    TRef.nullary (TRef.of (T := ⟨S_, .f32⟩) main_call1_cst) (constant S_ .f32 0x00000000#32),
    TRef.binary (TRef.of (T := ⟨S512x75264, .f32⟩) main_call1_v0) (TRef.of (T := ⟨S_, .f32⟩) main_call1_cst) (TRef.of (T := ⟨S512, .f32⟩) main_call1_v1) (fun x v => Host.reduceAdd x v reducesTo_S512x75264_S512_d1 h_S_),
    TRef.unary (TRef.of (T := ⟨S512, .f32⟩) main_call1_v1) (TRef.of (T := ⟨S512x1, .f32⟩) main_call1_v2) (broadcastInDim S512x1 ![0] bcast_S512_S512x1_0),
    TRef.unary (TRef.of (T := ⟨S512x1, .f32⟩) main_call1_v2) (TRef.of (T := ⟨S512x1, .f32⟩) main_v11) Host.sqrt,
    nullary main_cst_2 (constant S_ .f32 0x322BCC77#32),
    unary main_cst_2 main_v12 (broadcastInDim S512x1 ![] bcast_S_S512x1 : (⟨S_, .f32⟩ : BufTy).Contents (Elt F) → (⟨S512x1, .f32⟩ : BufTy).Contents (Elt F)),
    binary main_v11 main_v12 main_v13 (addf : (⟨S512x1, .f32⟩ : BufTy).Contents (Elt F) → (⟨S512x1, .f32⟩ : BufTy).Contents (Elt F) → (⟨S512x1, .f32⟩ : BufTy).Contents (Elt F)),
    unary main_v13 main_v14 (broadcastInDim S512x75264 ![0, 1] bcast_S512x1_S512x75264_0_1 : (⟨S512x1, .f32⟩ : BufTy).Contents (Elt F) → (⟨S512x75264, .f32⟩ : BufTy).Contents (Elt F)),
    binary main_arg3 main_v14 main_v15 (Host.divf : (⟨S512x75264, .f32⟩ : BufTy).Contents (Elt F) → (⟨S512x75264, .f32⟩ : BufTy).Contents (Elt F) → (⟨S512x75264, .f32⟩ : BufTy).Contents (Elt F)),
    unary main_v15 main_v16 ((transpose S75264x512 [1, 0] · transposes_S512x75264_S75264x512_1_0) : (⟨S512x75264, .f32⟩ : BufTy).Contents (Elt F) → (⟨S75264x512, .f32⟩ : BufTy).Contents (Elt F)),
    binary main_v10 main_v16 main_v17 ((fun l r => Host.dotGeneral dot_S64x75264_S75264x512_S64x512_1_0_0_1_n_n none l r) : (⟨S64x75264, .f32⟩ : BufTy).Contents (Elt F) → (⟨S75264x512, .f32⟩ : BufTy).Contents (Elt F) → (⟨S64x512, .f32⟩ : BufTy).Contents (Elt F)),
    nullary main_cst_3 (constant S_ .f32 0x3F800000#32),
    unary main_cst_3 main_v18 (broadcastInDim S64x512 ![] bcast_S_S64x512 : (⟨S_, .f32⟩ : BufTy).Contents (Elt F) → (⟨S64x512, .f32⟩ : BufTy).Contents (Elt F)),
    binary main_v18 main_v17 main_v19 (subf : (⟨S64x512, .f32⟩ : BufTy).Contents (Elt F) → (⟨S64x512, .f32⟩ : BufTy).Contents (Elt F) → (⟨S64x512, .f32⟩ : BufTy).Contents (Elt F)) ]

/-- and those after. -/
abbrev opsB : List (HloOp τ sig (Elt F)) :=
  [ TRef.nullary (TRef.of (T := ⟨S64x512, .i32⟩) main_call2_v0) (iotaInDim S64x512 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S64x512, .f32⟩) main_v19) (TRef.of (T := ⟨S64x512, .i32⟩) main_call2_v0) (TRef.of (T := ⟨S_, .f32⟩) main_call2_cst) (TRef.of (T := ⟨S_, .i32⟩) main_call2_c) (TRef.of (T := ⟨S64, .f32⟩) main_call2_v1_0) (fun x y u v j => (Host.argReduce reducer_argmin_f32_i32 x y u v reducesTo_S64x512_S64_d1 h_S_ j).1),
    TRef.quaternary (TRef.of (T := ⟨S64x512, .f32⟩) main_v19) (TRef.of (T := ⟨S64x512, .i32⟩) main_call2_v0) (TRef.of (T := ⟨S_, .f32⟩) main_call2_cst) (TRef.of (T := ⟨S_, .i32⟩) main_call2_c) (TRef.of (T := ⟨S64, .i32⟩) main_v20) (fun x y u v j => (Host.argReduce reducer_argmin_f32_i32 x y u v reducesTo_S64x512_S64_d1 h_S_ j).2),
    nullary main_c (constantI S_ 32 0#32),
    unary main_c main_v21 (broadcastInDim S64 ![] bcast_S_S64 : (⟨S_, .i32⟩ : BufTy).Contents (Elt F) → (⟨S64, .i32⟩ : BufTy).Contents (Elt F)),
    binary main_v20 main_v21 main_v22 (cmpi .slt : (⟨S64, .i32⟩ : BufTy).Contents (Elt F) → (⟨S64, .i32⟩ : BufTy).Contents (Elt F) → (⟨S64, .i1⟩ : BufTy).Contents (Elt F)),
    nullary main_c_4 (constantI S_ 32 512#32),
    unary main_c_4 main_v23 (broadcastInDim S64 ![] bcast_S_S64 : (⟨S_, .i32⟩ : BufTy).Contents (Elt F) → (⟨S64, .i32⟩ : BufTy).Contents (Elt F)),
    binary main_v20 main_v23 main_v24 (addi : (⟨S64, .i32⟩ : BufTy).Contents (Elt F) → (⟨S64, .i32⟩ : BufTy).Contents (Elt F) → (⟨S64, .i32⟩ : BufTy).Contents (Elt F)),
    ternary main_v22 main_v24 main_v20 main_v25 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v25 main_v26 (broadcastInDim S64x1 ![0] bcast_S64_S64x1_0 : (⟨S64, .i32⟩ : BufTy).Contents (Elt F) → (⟨S64x1, .i32⟩ : BufTy).Contents (Elt F)),
    binary main_arg4 main_v26 main_v27 ((fun x i => Host.gather gather_S512x2_S64x1_S64x2_1_0_n_n_0_1_12 x i) : (⟨S512x2, .f32⟩ : BufTy).Contents (Elt F) → (⟨S64x1, .i32⟩ : BufTy).Contents (Elt F) → (⟨S64x2, .f32⟩ : BufTy).Contents (Elt F)),
    unary main_v27 main_v28 (broadcastInDim S64x1x2 ![0, 2] bcast_S64x2_S64x1x2_0_2 : (⟨S64x2, .f32⟩ : BufTy).Contents (Elt F) → (⟨S64x1x2, .f32⟩ : BufTy).Contents (Elt F)),
    unary main_arg4 main_v29 (broadcastInDim S1x512x2 ![1, 2] bcast_S512x2_S1x512x2_1_2 : (⟨S512x2, .f32⟩ : BufTy).Contents (Elt F) → (⟨S1x512x2, .f32⟩ : BufTy).Contents (Elt F)),
    unary main_v28 main_v30 (broadcastInDim S64x512x2 ![0, 1, 2] bcast_S64x1x2_S64x512x2_0_1_2 : (⟨S64x1x2, .f32⟩ : BufTy).Contents (Elt F) → (⟨S64x512x2, .f32⟩ : BufTy).Contents (Elt F)),
    unary main_v29 main_v31 (broadcastInDim S64x512x2 ![0, 1, 2] bcast_S1x512x2_S64x512x2_0_1_2 : (⟨S1x512x2, .f32⟩ : BufTy).Contents (Elt F) → (⟨S64x512x2, .f32⟩ : BufTy).Contents (Elt F)),
    binary main_v30 main_v31 main_v32 (subf : (⟨S64x512x2, .f32⟩ : BufTy).Contents (Elt F) → (⟨S64x512x2, .f32⟩ : BufTy).Contents (Elt F) → (⟨S64x512x2, .f32⟩ : BufTy).Contents (Elt F)),
    binary main_v32 main_v32 main_v33 (mulf : (⟨S64x512x2, .f32⟩ : BufTy).Contents (Elt F) → (⟨S64x512x2, .f32⟩ : BufTy).Contents (Elt F) → (⟨S64x512x2, .f32⟩ : BufTy).Contents (Elt F)),
    nullary main_cst_5 (constant S_ .f32 0x00000000#32),
    binary main_v33 main_cst_5 main_v34 ((fun x v => Host.reduceAdd x v reducesTo_S64x512x2_S64x512_d2 h_S_) : (⟨S64x512x2, .f32⟩ : BufTy).Contents (Elt F) → (⟨S_, .f32⟩ : BufTy).Contents (Elt F) → (⟨S64x512, .f32⟩ : BufTy).Contents (Elt F)),
    unary main_v34 main_v35 (Host.negf : (⟨S64x512, .f32⟩ : BufTy).Contents (Elt F) → (⟨S64x512, .f32⟩ : BufTy).Contents (Elt F)),
    binary main_arg5 main_arg5 main_v36 (mulf : (⟨S_, .f32⟩ : BufTy).Contents (Elt F) → (⟨S_, .f32⟩ : BufTy).Contents (Elt F) → (⟨S_, .f32⟩ : BufTy).Contents (Elt F)),
    nullary main_cst_6 (constant S_ .f32 0x40000000#32),
    binary main_cst_6 main_v36 main_v37 (mulf : (⟨S_, .f32⟩ : BufTy).Contents (Elt F) → (⟨S_, .f32⟩ : BufTy).Contents (Elt F) → (⟨S_, .f32⟩ : BufTy).Contents (Elt F)),
    unary main_v37 main_v38 (broadcastInDim S64x512 ![] bcast_S_S64x512 : (⟨S_, .f32⟩ : BufTy).Contents (Elt F) → (⟨S64x512, .f32⟩ : BufTy).Contents (Elt F)),
    binary main_v35 main_v38 main_v39 (Host.divf : (⟨S64x512, .f32⟩ : BufTy).Contents (Elt F) → (⟨S64x512, .f32⟩ : BufTy).Contents (Elt F) → (⟨S64x512, .f32⟩ : BufTy).Contents (Elt F)),
    unary main_v39 main_v40 (Host.exp : (⟨S64x512, .f32⟩ : BufTy).Contents (Elt F) → (⟨S64x512, .f32⟩ : BufTy).Contents (Elt F)),
    binary main_v40 main_v19 main_v41 (mulf : (⟨S64x512, .f32⟩ : BufTy).Contents (Elt F) → (⟨S64x512, .f32⟩ : BufTy).Contents (Elt F) → (⟨S64x512, .f32⟩ : BufTy).Contents (Elt F)),
    nullary main_cst_7 (constant S_ .f32 0x00000000#32),
    binary main_v41 main_cst_7 main_v42 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    nullary main_cst_8 (constant S_ .f32 0x00000000#32),
    binary main_v42 main_cst_8 main_v43 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_9 (constant S_ .f32 0x42800000#32),
    binary main_v43 main_cst_9 main_v44 (Host.divf : (⟨S_, .f32⟩ : BufTy).Contents (Elt F) → (⟨S_, .f32⟩ : BufTy).Contents (Elt F) → (⟨S_, .f32⟩ : BufTy).Contents (Elt F)),
    binary main_arg6 main_v44 main_v45 (mulf : (⟨S_, .f32⟩ : BufTy).Contents (Elt F) → (⟨S_, .f32⟩ : BufTy).Contents (Elt F) → (⟨S_, .f32⟩ : BufTy).Contents (Elt F)),
    binary main_v45 main_v3 main_v46 (addf : (⟨S_, .f32⟩ : BufTy).Contents (Elt F) → (⟨S_, .f32⟩ : BufTy).Contents (Elt F) → (⟨S_, .f32⟩ : BufTy).Contents (Elt F)) ]

/-- The mean squared difference. -/
def lossNn (a b : FVec F S64x3x224x224 .f32) : FVec F S_ .f32 :=
  Host.divf (Host.reduceAdd (mulf (subf a b) (subf a b)) (constant S_ .f32 0x00000000#32) reducesTo_S64x3x224x224_S_d0_1_2_3 h_S_)
    (constant S_ .f32 0x4B130000#32)

/-- The patches of one image in a row, the class token left out. -/
def rows (x : FVec F S64x197x384 .f32) : FVec F S64x75264 .f32 :=
  shapeCast S64x75264 (extractStridedSlice S64x196x384 ![0, 1, 0] x slices_S64x197x384_S64x196x384_0_1_0) shapeCasts_S64x196x384_S64x75264

/-- Each row by its norm and a little. -/
def unitX (x : FVec F S64x75264 .f32) : FVec F S64x75264 .f32 :=
  Host.divf x (broadcastInDim S64x75264 ![0, 1] bcast_S64x1_S64x75264_0_1
    (addf (Host.sqrt (broadcastInDim S64x1 ![0] bcast_S64_S64x1_0
        (Host.reduceAdd (mulf x x) (constant S_ .f32 0x00000000#32) reducesTo_S64x75264_S64_d1 h_S_)))
      (broadcastInDim S64x1 ![] bcast_S_S64x1 (constant S_ .f32 0x322BCC77#32))))

/-- The same of the map's weights. -/
def unitW (x : FVec F S512x75264 .f32) : FVec F S512x75264 .f32 :=
  Host.divf x (broadcastInDim S512x75264 ![0, 1] bcast_S512x1_S512x75264_0_1
    (addf (Host.sqrt (broadcastInDim S512x1 ![0] bcast_S512_S512x1_0
        (Host.reduceAdd (mulf x x) (constant S_ .f32 0x00000000#32) reducesTo_S512x75264_S512_d1 h_S_)))
      (broadcastInDim S512x1 ![] bcast_S_S512x1 (constant S_ .f32 0x322BCC77#32))))

/-- The cosine distances. -/
def dists (x : FVec F S64x197x384 .f32) (w : FVec F S512x75264 .f32) : FVec F S64x512 .f32 :=
  subf (broadcastInDim S64x512 ![] bcast_S_S64x512 (constant S_ .f32 0x3F800000#32))
    (Host.dotGeneral dot_S64x75264_S75264x512_S64x512_1_0_0_1_n_n none (unitX (rows x))
      (transpose S75264x512 [1, 0] (unitW w) transposes_S512x75264_S75264x512_1_0))

/-- The nearest unit of each row. -/
def near (d : FVec F S64x512 .f32) : IVec S64 32 := fun j =>
  (Host.argReduce reducer_argmin_f32_i32 d (iotaInDim S64x512 32 1) (constant S_ .f32 0x7F800000#32) (constantI S_ 32 0#32)
    reducesTo_S64x512_S64_d1 h_S_ j).2

/-- An index counted from the end when negative. -/
def wrapped (n : IVec S64 32) : IVec S64 32 :=
  select (cmpi .slt n (broadcastInDim S64 ![] bcast_S_S64 (constantI S_ 32 0#32)))
    (addi n (broadcastInDim S64 ![] bcast_S_S64 (constantI S_ 32 512#32))) n

/-- The grid coordinates of the units named. -/
def place (gc : FVec F S512x2 .f32) (n : IVec S64 32) : FVec F S64x2 .f32 :=
  Host.gather gather_S512x2_S64x1_S64x2_1_0_n_n_0_1_12 gc (broadcastInDim S64x1 ![0] bcast_S64_S64x1_0 (wrapped n))

/-- The differences of coordinates. -/
def apart (gc : FVec F S512x2 .f32) (p : FVec F S64x2 .f32) : FVec F S64x512x2 .f32 :=
  subf (broadcastInDim S64x512x2 ![0, 1, 2] bcast_S64x1x2_S64x512x2_0_1_2 (broadcastInDim S64x1x2 ![0, 2] bcast_S64x2_S64x1x2_0_2 p))
    (broadcastInDim S64x512x2 ![0, 1, 2] bcast_S1x512x2_S64x512x2_0_1_2 (broadcastInDim S1x512x2 ![1, 2] bcast_S512x2_S1x512x2_1_2 gc))

/-- The neighbourhood weights. -/
def nbhd (gc : FVec F S512x2 .f32) (sg : FVec F S_ .f32) (p : FVec F S64x2 .f32) : FVec F S64x512 .f32 :=
  Host.exp (Host.divf
    (Host.negf (Host.reduceAdd (mulf (apart gc p) (apart gc p)) (constant S_ .f32 0x00000000#32) reducesTo_S64x512x2_S64x512_d2 h_S_))
    (broadcastInDim S64x512 ![] bcast_S_S64x512 (mulf (constant S_ .f32 0x40000000#32) (mulf sg sg))))

/-- The map's loss. -/
def lossSom (gc : FVec F S512x2 .f32) (sg : FVec F S_ .f32) (d : FVec F S64x512 .f32) : FVec F S_ .f32 :=
  Host.divf (Host.reduceAdd
      (Host.reduceAdd (mulf (nbhd gc sg (place gc (near d))) d) (constant S_ .f32 0x00000000#32) reducesTo_S64x512_S64_d1 h_S_)
      (constant S_ .f32 0x00000000#32) reducesTo_S64_S_d0 h_S_)
    (constant S_ .f32 0x42800000#32)

/-- The total. -/
def lossAll (lam ls ln : FVec F S_ .f32) : FVec F S_ .f32 := addf (mulf lam ls) ln

/-- All of them. -/
abbrev ops : List (HloOp τ sig (Elt F)) := opsA ++ opsB

set_option maxHeartbeats 4000000 in
theorem main_ops (c : Dev nD) : main (F := F) c = seq ops := rfl
theorem no_scoped_refs : (Finset.univ.filter fun b : Ref sig .tc => b.isScoped) = ∅ := by decide
theorem no_scoped_sems : (Finset.univ.filter fun sm : SemLoc sig => sm.isScoped .tc) = ∅ := by decide
theorem opsA_sub : (opsA : List (HloOp τ sig (Elt F))).Forall fun op => op.bufs ⊆ tcRefs τ sig :=
  ⟨binary_bufs_sub .., binary_bufs_sub .., nullary_bufs_sub .., binary_bufs_sub .., nullary_bufs_sub .., binary_bufs_sub .., unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub ..⟩
theorem opsB_sub : (opsB : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., binary_bufs_sub .., nullary_bufs_sub .., binary_bufs_sub .., unary_bufs_sub .., binary_bufs_sub .., unary_bufs_sub .., binary_bufs_sub .., nullary_bufs_sub .., binary_bufs_sub .., nullary_bufs_sub .., binary_bufs_sub .., nullary_bufs_sub .., binary_bufs_sub .., binary_bufs_sub .., binary_bufs_sub ..⟩
theorem ops_sub : (ops : List (HloOp τ sig (Elt F))).Forall fun op => op.bufs ⊆ tcRefs τ sig := by
  rw [List.forall_iff_forall_mem]
  intro op h
  rcases List.mem_append.mp h with h | h
  · exact List.forall_iff_forall_mem.mp opsA_sub op h
  · exact List.forall_iff_forall_mem.mp opsB_sub op h

/-- Every run ends, every buffer at what the operations leave. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq no_scoped_refs no_scoped_sems defs (main (F := F)) (fun _ => ops) main_ops (fun _ => ops_sub) m ρ (by
    intro _ op h
    rcases List.mem_append.mp h with h | h <;>
      ((repeat (cases h with | head => rfl | tail _ h => ?_)); exact nomatch h))

variable (W : Valuation τ sig (Elt F))

/-- Two stretches of operations one after the other. -/
theorem after_two (l₁ l₂ : List (HloOp τ sig (Elt F))) : after (l₁ ++ l₂) W = after l₂ (after l₁ W) := by
  induction l₁ generalizing W with
  | nil => rfl
  | cons _ _ ih => exact ih _

theorem argA0 : after opsA W (Proc.devRef .tc main_arg0) = W (Proc.devRef .tc main_arg0) := by
  after_results_simp
theorem argA1 : after opsA W (Proc.devRef .tc main_arg1) = W (Proc.devRef .tc main_arg1) := by
  after_results_simp
theorem argA2 : after opsA W (Proc.devRef .tc main_arg2) = W (Proc.devRef .tc main_arg2) := by
  after_results_simp
theorem argA3 : after opsA W (Proc.devRef .tc main_arg3) = W (Proc.devRef .tc main_arg3) := by
  after_results_simp
theorem argA4 : after opsA W (Proc.devRef .tc main_arg4) = W (Proc.devRef .tc main_arg4) := by
  after_results_simp
theorem argA5 : after opsA W (Proc.devRef .tc main_arg5) = W (Proc.devRef .tc main_arg5) := by
  after_results_simp
theorem argA6 : after opsA W (Proc.devRef .tc main_arg6) = W (Proc.devRef .tc main_arg6) := by
  after_results_simp
theorem argB0 : after opsB W (Proc.devRef .tc main_arg0) = W (Proc.devRef .tc main_arg0) := by
  after_results_simp
theorem argB1 : after opsB W (Proc.devRef .tc main_arg1) = W (Proc.devRef .tc main_arg1) := by
  after_results_simp
theorem argB2 : after opsB W (Proc.devRef .tc main_arg2) = W (Proc.devRef .tc main_arg2) := by
  after_results_simp
theorem argB3 : after opsB W (Proc.devRef .tc main_arg3) = W (Proc.devRef .tc main_arg3) := by
  after_results_simp
theorem argB4 : after opsB W (Proc.devRef .tc main_arg4) = W (Proc.devRef .tc main_arg4) := by
  after_results_simp
theorem argB5 : after opsB W (Proc.devRef .tc main_arg5) = W (Proc.devRef .tc main_arg5) := by
  after_results_simp
theorem argB6 : after opsB W (Proc.devRef .tc main_arg6) = W (Proc.devRef .tc main_arg6) := by
  after_results_simp
set_option maxHeartbeats 4000000 in
theorem v3_A : after opsA W (Proc.devRef .tc main_v3) = lossNn (W (Proc.devRef .tc main_arg0)) (W (Proc.devRef .tc main_arg1)) := by
  simp only [opsA, opsB, TRef.quaternary, TRef.ternary, TRef.binary, TRef.nullary, TRef.unary, TRef.toBuf, TRef.ofBuf, cast_eq]; after_results_simp <;> rfl
set_option maxHeartbeats 4000000 in
theorem v19_A : after opsA W (Proc.devRef .tc main_v19) = dists (W (Proc.devRef .tc main_arg2)) (W (Proc.devRef .tc main_arg3)) := by
  simp only [opsA, opsB, TRef.quaternary, TRef.ternary, TRef.binary, TRef.nullary, TRef.unary, TRef.toBuf, TRef.ofBuf, cast_eq]; after_results_simp <;> rfl
set_option maxHeartbeats 4000000 in
theorem v3_B : after opsB W (Proc.devRef .tc main_v3) = W (Proc.devRef .tc main_v3) := by
  simp only [opsA, opsB, TRef.quaternary, TRef.ternary, TRef.binary, TRef.nullary, TRef.unary, TRef.toBuf, TRef.ofBuf, cast_eq]; after_results_simp
set_option maxHeartbeats 4000000 in
theorem v44_B : after opsB W (Proc.devRef .tc main_v44) = lossSom (W (Proc.devRef .tc main_arg4)) (W (Proc.devRef .tc main_arg5)) (W (Proc.devRef .tc main_v19)) := by
  simp only [opsA, opsB, TRef.quaternary, TRef.ternary, TRef.binary, TRef.nullary, TRef.unary, TRef.toBuf, TRef.ofBuf, cast_eq]; after_results_simp <;> rfl
set_option maxHeartbeats 4000000 in
theorem v46_B : after opsB W (Proc.devRef .tc main_v46) = lossAll (W (Proc.devRef .tc main_arg6)) (lossSom (W (Proc.devRef .tc main_arg4)) (W (Proc.devRef .tc main_arg5)) (W (Proc.devRef .tc main_v19))) (W (Proc.devRef .tc main_v3)) := by
  simp only [opsA, opsB, TRef.quaternary, TRef.ternary, TRef.binary, TRef.nullary, TRef.unary, TRef.toBuf, TRef.ofBuf, cast_eq]; after_results_simp <;> rfl
theorem arg0 : after ops W (Proc.devRef .tc main_arg0) = W (Proc.devRef .tc main_arg0) := by rw [after_two, argB0, argA0]
theorem arg1 : after ops W (Proc.devRef .tc main_arg1) = W (Proc.devRef .tc main_arg1) := by rw [after_two, argB1, argA1]
theorem arg2 : after ops W (Proc.devRef .tc main_arg2) = W (Proc.devRef .tc main_arg2) := by rw [after_two, argB2, argA2]
theorem arg3 : after ops W (Proc.devRef .tc main_arg3) = W (Proc.devRef .tc main_arg3) := by rw [after_two, argB3, argA3]
theorem arg4 : after ops W (Proc.devRef .tc main_arg4) = W (Proc.devRef .tc main_arg4) := by rw [after_two, argB4, argA4]
theorem arg5 : after ops W (Proc.devRef .tc main_arg5) = W (Proc.devRef .tc main_arg5) := by rw [after_two, argB5, argA5]
theorem arg6 : after ops W (Proc.devRef .tc main_arg6) = W (Proc.devRef .tc main_arg6) := by rw [after_two, argB6, argA6]
/-- The three results. -/
theorem nn_eq : after ops W (Proc.devRef .tc main_v3) = lossNn (W (Proc.devRef .tc main_arg0)) (W (Proc.devRef .tc main_arg1)) := by rw [after_two, v3_B, v3_A]
theorem som_eq : after ops W (Proc.devRef .tc main_v44) = lossSom (W (Proc.devRef .tc main_arg4)) (W (Proc.devRef .tc main_arg5)) (dists (W (Proc.devRef .tc main_arg2)) (W (Proc.devRef .tc main_arg3))) := by
  rw [after_two, v44_B, argA4, argA5, v19_A]
theorem all_eq : after ops W (Proc.devRef .tc main_v46) = lossAll (W (Proc.devRef .tc main_arg6)) (lossSom (W (Proc.devRef .tc main_arg4)) (W (Proc.devRef .tc main_arg5)) (dists (W (Proc.devRef .tc main_arg2)) (W (Proc.devRef .tc main_arg3)))) (lossNn (W (Proc.devRef .tc main_arg0)) (W (Proc.devRef .tc main_arg1))) := by
  rw [after_two, v46_B, argA4, argA5, argA6, v19_A, v3_A]

end Cert.Som.Ref

end
-- ==== Proof.Arith.lean ====
/-
  Facts of the extended reals that the two programs' values rest on: the cosine of two rows, the
  squared distance of two points of the grid, and the place of a least value.
-/
module

public import Idealize.ShloMosaic.PureOps.Ideal.Laws
public import Mathlib.Data.EReal.Inv
public import Mathlib.Tactic.FieldSimp
public import Mathlib.Tactic.Positivity
public import Mathlib.Tactic.Linarith

@[expose] public section

namespace Cert.Som

open Idealize.ShloMosaic

/-- A square is not negative. -/
theorem sq_nonneg' (a : EReal) : 0 ≤ a * a := by
  induction a with
  | bot => rw [EReal.bot_mul_bot]; exact le_top
  | top => rw [EReal.top_mul_top]; exact le_top
  | coe r => rw [← EReal.coe_mul]; exact_mod_cast mul_self_nonneg r

/-- The little number kept under each norm, a positive real. -/
theorem eps_pos : ∃ e : ℝ, 0 < e ∧ Ideal.ofBits .f32 0x322BCC77#32 = (e : EReal) := by
  refine ⟨11258999 / 2 ^ 50, by norm_num, ?_⟩
  simp [Ideal.ofBits, Ideal.ieee, -EReal.coe_mul]
  norm_num

/-- The norm of a row and a little. -/
noncomputable def norm {ι : Type} [Fintype ι] (x : ι → EReal) : EReal :=
  Ideal.sqrt (∑ i, x i * x i) + Ideal.ofBits .f32 0x322BCC77#32

/-- It is infinite, or it and the row are real and it is positive. -/
theorem norm_cases {ι : Type} [Fintype ι] (x : ι → EReal) :
    norm x = ⊤ ∨ ∃ (r : ℝ) (y : ι → ℝ), 0 < r ∧ norm x = r ∧ x = fun i => (y i : EReal) := by
  obtain ⟨e, he, hE⟩ := eps_pos
  unfold norm
  rw [hE]
  have h0 : 0 ≤ ∑ i, x i * x i := Finset.sum_nonneg fun i _ => sq_nonneg' (x i)
  have hle : ∀ i, x i * x i ≤ ∑ i, x i * x i := fun i =>
    Finset.single_le_sum (f := fun i => x i * x i) (fun i _ => sq_nonneg' (x i)) (Finset.mem_univ i)
  generalize ∑ i, x i * x i = S at h0 hle ⊢
  induction S with
  | bot => exact absurd h0 (by simp)
  | top => left; rw [Ideal.sqrt_top, EReal.top_add_coe]
  | coe s =>
    right
    have hs : 0 ≤ s := by exact_mod_cast h0
    refine ⟨Real.sqrt s + e, fun i => (x i).toReal, by positivity, ?_, funext fun i => ?_⟩
    · rw [Ideal.sqrt_coe, if_neg (not_lt.2 hs), EReal.coe_add]
    · have hi := hle i
      change x i = ((x i).toReal : EReal)
      generalize x i = a at hi ⊢
      induction a with
      | bot => rw [EReal.bot_mul_bot] at hi; exact absurd (top_le_iff.1 hi) (EReal.coe_ne_top _)
      | top => rw [EReal.top_mul_top] at hi; exact absurd (top_le_iff.1 hi) (EReal.coe_ne_top _)
      | coe r => simp

theorem coe_total {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_top (x : EReal) : Ideal.div x ⊤ = 0 := by
  unfold Ideal.div
  rw [if_neg (by simp), EReal.inv_top, mul_zero]

theorem norm_pos {ι : Type} [Fintype ι] (x : ι → EReal) : 0 < norm x := by
  rcases norm_cases x with h | ⟨r, _, hr, h, _⟩
  · rw [h]; exact EReal.zero_lt_top
  · rw [h]; exact_mod_cast hr

/-- The rows may be divided by their norms before the product or after it. -/
theorem cosine {ι : Type} [Fintype ι] (x y : ι → EReal) :
    ∑ i, Ideal.div (x i) (norm x) * Ideal.div (y i) (norm y) = Ideal.div (∑ i, x i * y i) (norm x * norm y) := by
  rcases norm_cases x with hx | ⟨r, p, hr, hx, hp⟩
  · rw [hx, EReal.top_mul_of_pos (norm_pos y), div_top]
    simp [div_top]
  · rcases norm_cases y with hy | ⟨s, q, hs, hy, hq⟩
    · rw [hy, EReal.mul_top_of_pos (norm_pos x), div_top]
      simp [div_top]
    · rw [hx, hy, hp, hq, ← EReal.coe_mul]
      simp only [Ideal.div_coe hr.ne', Ideal.div_coe hs.ne', Ideal.div_coe (mul_pos hr hs).ne', ← EReal.coe_mul]
      rw [coe_total, coe_total, ← EReal.coe_mul]
      congr 1
      rw [Finset.sum_mul]
      refine Finset.sum_congr rfl fun i _ => ?_
      field_simp

/-- The squared distance of two real points, from their squares and their product. -/
theorem apart_sq (p q : Fin 2 → EReal) (hp : ∃ r : Fin 2 → ℝ, p = fun k => (r k : EReal))
    (hq : ∃ r : Fin 2 → ℝ, q = fun k => (r k : EReal)) :
    max (((∑ k, p k * p k) + ∑ k, q k * q k) - Ideal.ofBits .f32 0x40000000#32 * ∑ k, p k * q k) 0
      = ∑ k, (p k - q k) * (p k - q k) := by
  obtain ⟨p, rfl⟩ := hp
  obtain ⟨q, rfl⟩ := hq
  have h2 : Ideal.ofBits .f32 0x40000000#32 = ((2 : ℝ) : EReal) := by
    simp [Ideal.ofBits, Ideal.ieee, -EReal.coe_mul]
    try norm_num
  rw [h2]
  simp only [Fin.sum_univ_two, ← EReal.coe_mul, ← EReal.coe_add, ← EReal.coe_sub]
  rw [max_eq_left]
  · congr 1; ring
  · have : (0 : ℝ) ≤ p 0 * p 0 + p 1 * p 1 + (q 0 * q 0 + q 1 * q 1) - 2 * (p 0 * q 0 + p 1 * q 1) := by
      nlinarith [sq_nonneg (p 0 - q 0), sq_nonneg (p 1 - q 1)]
    exact_mod_cast this

/-- The first place where `f` is least. -/
def IsFirst {n : Nat} (f : Fin n → EReal) (k : Fin n) : Prop := (∀ j, f k ≤ f j) ∧ ∀ j, f j ≤ f k → k ≤ j

theorem exists_first {n : Nat} (f : Fin (n + 1) → EReal) : ∃ k, IsFirst f k := by
  obtain ⟨k₀, -, h₀⟩ := Finset.exists_min_image Finset.univ f Finset.univ_nonempty
  have hne : (Finset.univ.filter fun k => ∀ j, f k ≤ f j).Nonempty :=
    ⟨k₀, Finset.mem_filter.2 ⟨Finset.mem_univ _, fun j => h₀ j (Finset.mem_univ _)⟩⟩
  refine ⟨_, (Finset.mem_filter.1 (Finset.min'_mem _ hne)).2, fun j hj => Finset.min'_le _ _ ?_⟩
  exact Finset.mem_filter.2 ⟨Finset.mem_univ _, fun i => hj.trans ((Finset.mem_filter.1 (Finset.min'_mem _ hne)).2 i)⟩

end Cert.Som
-- ==== Proof.Nearest.lean ====
/-
  The nearest unit of a row: the first place of its least distance, as the reference's paired fold names
  it and as the kernel's two folds do.
-/
module

public import proofs.«01_k».proof.Proof.Arith
public import proofs.«01_k».proof.Proof.Ref
public import Idealize.ShloMosaic.Lib.SortNet.Extract
public import Idealize.ShloMosaic.Lib.ValueIdx
public import Idealize.ShloMosaic.Lib.Pipeline.Value
public import Idealize.ShloMosaic.Lib.StableHlo.Predicate

@[expose] public section

namespace Cert.Som

open Idealize.ShloMosaic Idealize.ShloMosaic.ValueIdx

theorem ofBits_inf : Ideal.ofBits .f32 0x7F800000#32 = ⊤ := by
  simp [Ideal.ofBits, Ideal.ieee]

/-- `a` comes no later than `b`: a lesser distance, or the same and a number no greater. -/
def Before (a b : EReal × BitVec 32) : Prop := a.1 < b.1 ∨ a.1 = b.1 ∧ a.2.toInt ≤ b.2.toInt

theorem Before.rfl {a : EReal × BitVec 32} : Before a a := Or.inr ⟨Eq.refl _, le_rfl⟩

theorem Before.trans {a b c : EReal × BitVec 32} (h : Before a b) (h' : Before b c) : Before a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

/-- The reference's step keeps the earlier of two pairs. -/
theorem step_spec (a b : EReal × BitVec 32) :
    (ReferenceIdeal.reducer_argmin_f32_i32 (F := Ideal) a b = a ∨ ReferenceIdeal.reducer_argmin_f32_i32 (F := Ideal) a b = b) ∧
      Before (ReferenceIdeal.reducer_argmin_f32_i32 (F := Ideal) a b) a ∧
      Before (ReferenceIdeal.reducer_argmin_f32_i32 (F := Ideal) a b) b := by
  obtain ⟨x, i⟩ := a
  obtain ⟨y, j⟩ := b
  simp only [ReferenceIdeal.reducer_argmin_f32_i32, Ideal.cmpf_def, Ideal.cmp, IntOp.cmpi, IntOp.ori, IntOp.andi, ne_eq, not_true_eq_false,
    decide_false, BitVec.slt, Before]
  rcases lt_trichotomy x y with h | rfl | h
  · simp [h, h.ne, Scalar.select]
  · by_cases hi : i.toInt < j.toInt
    · simp [hi, hi.le, Scalar.select]
    · simp [hi, not_lt.1 hi, Scalar.select]
  · simp [h, h.ne', not_lt.2 h.le, Scalar.select]

/-- So does a whole fold of it. -/
theorem fold_spec (L : List (EReal × BitVec 32)) (a : EReal × BitVec 32) :
    (L.foldl (ReferenceIdeal.reducer_argmin_f32_i32 (F := Ideal)) a = a ∨ L.foldl (ReferenceIdeal.reducer_argmin_f32_i32 (F := Ideal)) a ∈ L) ∧
      Before (L.foldl (ReferenceIdeal.reducer_argmin_f32_i32 (F := Ideal)) a) a ∧
      ∀ p ∈ L, Before (L.foldl (ReferenceIdeal.reducer_argmin_f32_i32 (F := Ideal)) a) p := by
  induction L generalizing a with
  | nil => exact ⟨Or.inl rfl, Before.rfl, fun _ h => absurd h List.not_mem_nil⟩
  | cons b L ih =>
    obtain ⟨h1, h2, h3⟩ := ih (ReferenceIdeal.reducer_argmin_f32_i32 (F := Ideal) a b)
    obtain ⟨g1, g2, g3⟩ := step_spec a b
    rw [List.foldl_cons]
    refine ⟨?_, h2.trans g2, fun p hp => ?_⟩
    · rcases h1 with h1 | h1
      · rw [h1]
        rcases g1 with g1 | g1
        · exact Or.inl g1
        · exact Or.inr (by rw [g1]; exact List.mem_cons_self)
      · exact Or.inr (List.mem_cons_of_mem _ h1)
    · rcases List.mem_cons.1 hp with rfl | hp
      · exact h2.trans g3
      · exact h3 p hp

theorem toInt_num (k : Fin 512) : (BitVec.ofNat 32 k.val).toInt = k.val := by
  have h := k.isLt
  have hn : (BitVec.ofNat 32 k.val).toNat = k.val := by rw [BitVec.toNat_ofNat]; exact Nat.mod_eq_of_lt (by omega)
  rw [BitVec.toInt_eq_toNat_of_lt (by omega), hn]

/-- The fold over a row's pairs, in any order, ends at the row's first least place. -/
theorem fold_first (f : Fin 512 → EReal) (L : List (EReal × BitVec 32)) (hL : ∀ p ∈ L, ∃ k : Fin 512, p = (f k, BitVec.ofNat 32 k.val))
    (hall : ∀ k : Fin 512, (f k, BitVec.ofNat 32 k.val) ∈ L) (k : Fin 512) (hk : IsFirst f k) :
    (L.foldl (ReferenceIdeal.reducer_argmin_f32_i32 (F := Ideal)) ((⊤ : EReal), 0#32)).2 = BitVec.ofNat 32 k.val := by
  obtain ⟨h1, -, h3⟩ := fold_spec L ((⊤ : EReal), 0#32)
  generalize L.foldl (ReferenceIdeal.reducer_argmin_f32_i32 (F := Ideal)) ((⊤ : EReal), 0#32) = r at h1 h3
  rcases h1 with rfl | h1
  · have htop : ∀ j, f j = ⊤ := fun j => by
      rcases h3 _ (hall j) with h | ⟨h, -⟩
      · exact absurd h (by simp)
      · exact h.symm
    have h0 : k ≤ 0 := hk.2 0 (by rw [htop, htop])
    have : k = 0 := Fin.le_zero_iff.1 h0
    subst this; rfl
  · obtain ⟨j, rfl⟩ := hL r h1
    have hj : ∀ i, f j ≤ f i := fun i => by
      rcases h3 _ (hall i) with h | ⟨h, -⟩
      · exact h.le
      · exact h.le
    have hkj : k ≤ j := hk.2 j (hj k)
    have hjk : j ≤ k := by
      rcases h3 _ (hall k) with h | ⟨-, h⟩
      · exact absurd h (not_lt.2 (hk.1 j))
      · simp only [toInt_num] at h
        exact Fin.le_def.2 (by omega)
    rw [le_antisymm hkj hjk]

/-- The reference's nearest unit of a row. -/
theorem near_eq (d : FVec Ideal ReferenceIdeal.S64x512 .f32) (i : Fin 64) (k : Fin 512) (hk : IsFirst (fun j => d (ix2 i j)) k) :
    Ref.near d (ix1 i) = BitVec.ofNat 32 k.val := by
  unfold Ref.near
  rw [Ideal.argReduce_eq_reduce2, Host.reduce2_eq_foldl_fiber]
  have hi : ((constant (F := Ideal) ReferenceIdeal.S_ .f32 0x7F800000#32 (Shape.Idx.first ReferenceIdeal.Gen.h_S_),
      constantI ReferenceIdeal.S_ 32 0#32 (Shape.Idx.first ReferenceIdeal.Gen.h_S_)) : EReal × BitVec 32) = (⊤, 0#32) :=
    Prod.ext ofBits_inf rfl
  have hd : ∀ a b, ReferenceIdeal.Gen.reducesTo_S64x512_S64_d1.drop (ix2 (n0 := 64) (n1 := 512) a b) = ix1 a := fun a b => by
    funext e
    match e with
    | ⟨0, _⟩ => exact Fin.ext (ReferenceIdeal.Gen.reducesTo_S64x512_S64_d1.drop_apply_val_of_eq (ix2 (n0 := 64) (n1 := 512) a b) 0 0)
  refine (congrArg (fun z => (List.foldl (ReferenceIdeal.reducer_argmin_f32_i32 (F := Ideal)) z
      (Host.argReduceFiber d (iotaInDim ReferenceIdeal.S64x512 32 1) ReferenceIdeal.Gen.reducesTo_S64x512_S64_d1 (ix1 i))).2) hi).trans
    (fold_first (fun j => d (ix2 i j))
      (Host.argReduceFiber d (iotaInDim ReferenceIdeal.S64x512 32 1) ReferenceIdeal.Gen.reducesTo_S64x512_S64_d1 (ix1 i)) ?_ ?_ k hk)
  · intro p hp
    unfold Host.argReduceFiber at hp
    obtain ⟨n, hn, rfl⟩ := List.mem_map.1 hp
    have hn := (List.mem_filter.1 hn).2
    generalize ReferenceIdeal.S64x512.rowMajor.symm n = q at hn
    obtain ⟨a, b, rfl⟩ : ∃ a b, q = ix2 (n0 := 64) (n1 := 512) a b := ⟨_, _, eq_ix2 q⟩
    rw [hd] at hn
    have ha : a = i := congrFun (of_decide_eq_true hn) 0
    subst ha
    exact ⟨b, rfl⟩
  · intro j
    unfold Host.argReduceFiber
    refine List.mem_map.2 ⟨ReferenceIdeal.S64x512.rowMajor (ix2 i j), List.mem_filter.2 ⟨List.mem_finRange _, ?_⟩, ?_⟩
    · rw [Equiv.symm_apply_apply]; exact decide_eq_true (hd i j)
    · rw [Equiv.symm_apply_apply]; rfl

/-- A unit's number is not counted from the end. -/
theorem wrapped_eq (n : IVec ReferenceIdeal.S64 32) (i : Fin 64) (k : Fin 512) (hn : n (ix1 i) = BitVec.ofNat 32 k.val) :
    Ref.wrapped n (ix1 i) = BitVec.ofNat 32 k.val := by
  have h : IntOp.cmpi .slt (n (ix1 i)) 0#32 = 0#1 := by
    rw [hn]
    simp [IntOp.cmpi, BitVec.slt, toInt_num]
    rfl
  show Scalar.select (IntOp.cmpi .slt (n (ix1 i)) 0#32) _ (n (ix1 i)) = _
  rw [h, hn]
  rfl

/-- The reference reads the nearest unit's coordinates. -/
theorem place_eq (gc : FVec Ideal ReferenceIdeal.S512x2 .f32) (n : IVec ReferenceIdeal.S64 32) (i : Fin 64) (c : Fin 2) (k : Fin 512)
    (hn : n (ix1 i) = BitVec.ofNat 32 k.val) : Ref.place gc n (ix2 i c) = gc (ix2 k c) := by
  have hw := wrapped_eq n i k hn
  have hb : ∀ q : ReferenceIdeal.S64x1.Idx, q 0 = i →
      broadcastInDim ReferenceIdeal.S64x1 ![0] ReferenceIdeal.Gen.bcast_S64_S64x1_0 (Ref.wrapped n) q = BitVec.ofNat 32 k.val := fun q hq =>
    (broadcastInDim_apply _ _ _ _ (ix1 i) (fun a => by
      match a with
      | ⟨0, _⟩ => exact (congrArg Fin.val hq).symm)).trans hw
  unfold Ref.place Host.gather
  refine congrArg gc (funext fun a => Fin.ext ?_)
  match a with
  | ⟨0, _⟩ =>
    show GatherDims.start _ _ _ 0 + GatherDims.batchCoord _ _ 0 + GatherDims.offCoord _ _ 0 = k.val
    rw [GatherDims.batchCoord_eq_zero _ _ _ (by decide), GatherDims.offCoord_eq_zero _ _ _ (by decide), GatherDims.start,
      dif_pos (by decide), hb _ rfl, toInt_num]
    have := k.isLt
    show min k.val 511 + 0 + 0 = k.val
    omega
  | ⟨1, _⟩ =>
    show GatherDims.start _ _ _ 1 + GatherDims.batchCoord _ _ 1 + GatherDims.offCoord _ _ 1 = c.val
    rw [GatherDims.batchCoord_eq_zero _ _ _ (by decide), GatherDims.start, dif_neg (by decide), Nat.zero_add]
    rfl

/-- A one where two words agree, a zero elsewhere. -/
theorem bit_eq (x y : BitVec 32) :
    (FloatOps.sitofp .f32 ((IntOp.cmpi .eq x y).setWidth 32) : Ideal .f32) = if x = y then (1 : EReal) else 0 := by
  show ((((IntOp.cmpi .eq x y).setWidth 32).toInt : ℝ) : EReal) = _
  by_cases h : x = y
  · subst h; simp [IntOp.cmpi]
  · have hb : (x == y) = false := beq_eq_false_iff_ne.2 h
    simp [IntOp.cmpi, h, hb]

/-- The kernel's least distance is the one at the first least place. -/
theorem min_first (f : Fin 512 → EReal) (k : Fin 512) (hk : IsFirst f k) : Finset.univ.fold min ⊤ f = f k := by
  apply le_antisymm
  · exact Finset.fold_min_le (c := f k) |>.2 (Or.inr ⟨k, Finset.mem_univ _, le_rfl⟩)
  · exact Finset.le_fold_min (c := f k) |>.2 ⟨le_top, fun j _ => hk.1 j⟩

/-- The least number of a unit at that distance is the first least place. -/
theorem minsi_first (f : Fin 512 → EReal) (k : Fin 512) (hk : IsFirst f k) :
    Finset.univ.fold IntOp.minsi 2147483647#32 (fun j : Fin 512 => if f j = f k then BitVec.ofNat 32 j.val else 512#32)
      = BitVec.ofNat 32 k.val := by
  apply BitVec.eq_of_toInt_eq
  rw [← Finset.fold_hom (op' := min) (m := BitVec.toInt) SortNet.toInt_minsi, toInt_num]
  have h512 : (512#32 : BitVec 32).toInt = 512 := rfl
  have := k.isLt
  apply le_antisymm
  · refine Finset.fold_min_le (c := (k.val : ℤ)) |>.2 (Or.inr ⟨k, Finset.mem_univ _, ?_⟩)
    rw [if_pos rfl, toInt_num]
  · refine Finset.le_fold_min (c := (k.val : ℤ)) |>.2 ⟨?_, fun j _ => ?_⟩
    · show (k.val : ℤ) ≤ 2147483647
      omega
    · split
      · next h => rw [toInt_num]; exact_mod_cast hk.2 j h.le
      · rw [h512]; omega

end Cert.Som
-- ==== Proof.Ending.lean ====
/-
  What the second call makes of its accumulators at its last point, number by number: the distances, the
  nearest unit's coordinates, and the map's part of the loss.
-/
module

public import proofs.«01_k».proof.Proof.Nearest
public import proofs.«01_k».proof.Proof.SomRun

@[expose] public section

set_option maxRecDepth 16384

noncomputable section

namespace Cert.Som

open Cert.KernelIdeal Cert.KernelIdeal.Gen
open Idealize.ShloMosaic Idealize.ShloMosaic.ValueIdx

/-- A product of matrices contracted over one axis, as a sum over that axis. -/
theorem matmul_sum {sl sr so : Shape} (D : DotDims sl sr so) (prec : Option ContractPrecision) (n : Nat) (hr : D.contr.rank = 1)
    (hs : D.contr.size ⟨0, by omega⟩ = n) (l : FVec Ideal sl .f32) (r : FVec Ideal sr .f32) (j : so.Idx) (f : Fin n → sl.Idx)
    (g : Fin n → sr.Idx) (hf : ∀ k, D.lhsIdx j k = f (contrEquiv1 D n hr hs k)) (hg : ∀ k, D.rhsIdx j k = g (contrEquiv1 D n hr hs k)) :
    FloatOps.matmul D prec l r (constant so .f32 0x00000000#32) j = ∑ k, l (f k) * r (g k) := by
  rw [Ideal.matmul_constant_zero_apply, ← Equiv.sum_comp (contrEquiv1 D n hr hs)]
  exact Finset.sum_congr rfl fun k _ => by rw [hf, hg]

theorem sum_shapeCast {s t : Shape} (x : s.Idx → EReal) (h : s.ShapeCasts t) : ∑ i, shapeCast t x h i = ∑ i, x i := by
  unfold shapeCast
  exact Equiv.sum_comp _ x

/-- A column vector over the rows of a matrix. -/
theorem overRows (v : FVec Ideal S64x1 .f32) (i : Fin 64) (k : Fin 512) :
    broadcastTo S64x512 v broadcasts_S64x1_S64x512 (ix2 i k) = v (ix2 i 0) :=
  broadcastTo_apply _ _ _ _ fun a => by
    match a with
    | ⟨0, _⟩ => rfl
    | ⟨1, _⟩ => rfl

/-- A row vector over the columns of a matrix. -/
theorem overCols (v : FVec Ideal S1x512 .f32) (i : Fin 64) (k : Fin 512) :
    broadcastTo S64x512 v broadcasts_S1x512_S64x512 (ix2 i k) = v (ix2 0 k) :=
  broadcastTo_apply _ _ _ _ fun a => by
    match a with
    | ⟨0, _⟩ => rfl
    | ⟨1, _⟩ => rfl

theorem num_inj {e k : Fin 512} : BitVec.ofNat 32 e.val = BitVec.ofNat 32 k.val ↔ e = k :=
  ⟨fun h => Fin.ext (by have h := congrArg BitVec.toInt h; rw [toInt_num, toInt_num] at h; exact_mod_cast h), fun h => h ▸ rfl⟩

/-- Ones on the diagonal. -/
theorem diag (e k : Fin 512) :
    sitofp (F := Ideal) .f32 (extui 32 (cmpi .eq (iota .tc S512x512 32 [0] iota_S512x512_d0_w32)
      (iota .tc S512x512 32 [1] iota_S512x512_d1_w32)) natLt_1_32) (ix2 e k) = if e = k then (1 : EReal) else 0 := by
  show FloatOps.sitofp (F := Ideal) .f32 ((IntOp.cmpi .eq (iota .tc S512x512 32 [0] iota_S512x512_d0_w32 (ix2 e k))
    (iota .tc S512x512 32 [1] iota_S512x512_d1_w32 (ix2 e k))).setWidth 32) = _
  rw [iota_single_apply, iota_single_apply, bit_eq]
  exact if_congr num_inj rfl rfl

/-- The transpose of a column, as the kernel takes it: its product with ones on the diagonal. -/
theorem column_turned (v : FVec Ideal S512x1 .f32) (k : Fin 512) :
    matmul dot_S512x1_S512x512_S1x512_0_0_1_1_n_n (some .fp32) v
        (sitofp .f32 (extui 32 (cmpi .eq (iota .tc S512x512 32 [0] iota_S512x512_d0_w32) (iota .tc S512x512 32 [1] iota_S512x512_d1_w32))
          natLt_1_32))
        (constant S1x512 .f32 0x00000000#32) (ix2 0 k) = v (ix2 k 0) := by
  refine (matmul_sum dot_S512x1_S512x512_S1x512_0_0_1_1_n_n _ 512 rfl rfl _ _ _ (fun e => ix2 e 0) (fun e => ix2 e k) ?_ ?_).trans ?_
  · intro q; funext a
    match a with
    | ⟨0, _⟩ => rfl
    | ⟨1, _⟩ => rfl
  · intro q; funext a
    match a with
    | ⟨0, _⟩ => rfl
    | ⟨1, _⟩ => rfl
  · rw [Finset.sum_eq_single k]
    · show v (ix2 k 0) * _ = _
      rw [diag, if_pos rfl, mul_one]
    · intro e _ he
      show v (ix2 e 0) * _ = _
      rw [diag, if_neg he, mul_zero]
    · exact fun h => absurd (Finset.mem_univ _) h

/-- A distance: one less the product of the rows over the product of the norms. -/
theorem dist_apply (sy : FVec Ideal S512x1 .f32) (sx : FVec Ideal S64x1 .f32) (g : FVec Ideal S64x512 .f32) (i : Fin 64) (k : Fin 512) :
    k1_pay13 sy sx g (ix2 i k) = Ideal.ofBits .f32 0x3F800000#32 - Ideal.div (g (ix2 i k))
      ((Ideal.sqrt (sx (ix2 i 0)) + Ideal.ofBits .f32 0x322BCC77#32) * (Ideal.sqrt (sy (ix2 k 0)) + Ideal.ofBits .f32 0x322BCC77#32)) := by
  rw [← column_turned sy k]
  unfold k1_pay13
  show _ - Ideal.div _ (broadcastTo S64x512 _ broadcasts_S64x1_S64x512 (ix2 i k) * broadcastTo S64x512 _ broadcasts_S1x512_S64x512 (ix2 i k)) = _
  rw [overRows, overCols]
  rfl

/-- A column vector from its numbers. -/
theorem asColumn {α : Type} (v : S64.Idx → α) (i : Fin 64) : shapeCast S64x1 v shapeCasts_S64_S64x1 (ix2 i 0) = v (ix1 i) :=
  shapeCast_apply _ _ _ _ (by
    rw [Shape.rowMajor_val_one, Shape.rowMajor_val_two]
    show i.val = i.val * 1 + 0
    omega)

/-- One number over a row of a matrix of words. -/
theorem overRowsI (v : IVec S64x1 32) (i : Fin 64) (k : Fin 512) :
    broadcastTo S64x512 v broadcasts_S64x1_S64x512 (ix2 i k) = v (ix2 i 0) :=
  broadcastTo_apply _ _ _ _ fun a => by
    match a with
    | ⟨0, _⟩ => rfl
    | ⟨1, _⟩ => rfl

/-- The least of a row. -/
theorem rowMin (d : FVec Ideal S64x512 .f32) (i : Fin 64) (k : Fin 512) (hk : IsFirst (fun j => d (ix2 i j)) k) :
    multiReduction .minimumf [1] S64 d 0x7F800000#32 reduces_S64x512_S64 (.inl rfl) rfl (ix1 i) = d (ix2 i k) := by
  refine (multiReduction_minimumf_eq_fold _ _ _ _ _ _).trans ((reduces_S64x512_S64.fold_filter_drop_single _ _ _ _).trans ?_)
  refine Eq.trans ?_ (min_first _ k hk)
  have hl : (d ∘ reduces_S64x512_S64.lift (ix1 i)) = fun j : Fin 512 => d (ix2 i j) := funext fun j => congrArg d (funext fun a => by
    match a with
    | ⟨0, _⟩ => rfl
    | ⟨1, _⟩ => rfl)
  rw [hl, ← ofBits_inf]
  rfl

/-- The least number on a row. -/
theorem rowMinI (n : IVec S64x512 32) (i : Fin 64) :
    multiReductionI .minsi [1] S64 n 2147483647#32 reduces_S64x512_S64 rfl (ix1 i)
      = Finset.univ.fold IntOp.minsi 2147483647#32 fun j : Fin 512 => n (ix2 i j) := by
  refine (multiReductionI_eq_fold _ _ _ _ _ _).trans ((reduces_S64x512_S64.fold_filter_drop_single _ _ _ _).trans ?_)
  have hl : (n ∘ reduces_S64x512_S64.lift (ix1 i)) = fun j : Fin 512 => n (ix2 i j) := funext fun j => congrArg n (funext fun a => by
    match a with
    | ⟨0, _⟩ => rfl
    | ⟨1, _⟩ => rfl)
  rw [hl]
  rfl

/-- The number of each unit, and 512 where it isn't a nearest one. -/
def nearNum (d : FVec Ideal S64x512 .f32) : IVec S64x512 32 :=
  select (cmpf .oeq d (broadcastTo S64x512
      (shapeCast S64x1 (multiReduction .minimumf [1] S64 d 0x7F800000#32 reduces_S64x512_S64 (.inl rfl) rfl) shapeCasts_S64_S64x1)
      broadcasts_S64x1_S64x512))
    (iota .tc S64x512 32 [1] iota_S64x512_d1_w32) (broadcast S64x512 512#32)

theorem nearNum_apply (d : FVec Ideal S64x512 .f32) (i : Fin 64) (k : Fin 512) (hk : IsFirst (fun j => d (ix2 i j)) k) (j : Fin 512) :
    nearNum d (ix2 i j) = if d (ix2 i j) = d (ix2 i k) then BitVec.ofNat 32 j.val else 512#32 := by
  unfold nearNum
  show Scalar.select (Ideal.cmp .oeq (d (ix2 i j)) (broadcastTo S64x512 _ broadcasts_S64x1_S64x512 (ix2 i j)))
    (iota .tc S64x512 32 [1] iota_S64x512_d1_w32 (ix2 i j)) 512#32 = _
  rw [overRows, asColumn, rowMin d i k hk, iota_single_apply]
  by_cases h : d (ix2 i j) = d (ix2 i k)
  · simp [Ideal.cmp, Scalar.select, h]
  · simp [Ideal.cmp, Scalar.select, h]

/-- The kernel takes the nearest unit's coordinates. -/
theorem bmu_apply (sy : FVec Ideal S512x1 .f32) (sx : FVec Ideal S64x1 .f32) (g : FVec Ideal S64x512 .f32) (gc : FVec Ideal S512x2 .f32)
    (i : Fin 64) (c : Fin 2) (k : Fin 512) (hk : IsFirst (fun j => k1_pay13 (F := Ideal) sy sx g (ix2 i j)) k) :
    k1_pay14 sy sx g gc (ix2 i c) = gc (ix2 k c) := by
  unfold k1_pay14
  refine (matmul_sum dot_S64x512_S512x2_S64x2_1_0_0_1_n_n _ 512 rfl rfl _ _ _ (fun e => ix2 i e) (fun e => ix2 e c) ?_ ?_).trans ?_
  · intro q; funext a
    match a with
    | ⟨0, _⟩ => rfl
    | ⟨1, _⟩ => rfl
  · intro q; funext a
    match a with
    | ⟨0, _⟩ => rfl
    | ⟨1, _⟩ => rfl
  · have hb : ∀ e : Fin 512, (FloatOps.sitofp (F := Ideal) .f32 ((IntOp.cmpi .eq (iota .tc S64x512 32 [1] iota_S64x512_d1_w32 (ix2 i e))
        (broadcastTo S64x512 (shapeCast S64x1
          (multiReductionI .minsi [1] S64 (nearNum (k1_pay13 sy sx g)) 2147483647#32 reduces_S64x512_S64 rfl) shapeCasts_S64_S64x1)
          broadcasts_S64x1_S64x512 (ix2 i e))).setWidth 32) : EReal) = if e = k then 1 else 0 := fun e => by
      rw [overRowsI, asColumn, rowMinI, iota_single_apply, bit_eq]
      simp only [nearNum_apply _ i k hk]
      rw [minsi_first (fun j => k1_pay13 (F := Ideal) sy sx g (ix2 i j)) k hk]
      exact if_congr num_inj rfl rfl
    have hs : ∀ e : Fin 512, _ := fun e => congrArg (fun z : EReal => z * gc (ix2 e c)) (hb e)
    refine (Finset.sum_congr rfl fun e _ => hs e).trans ?_
    rw [Finset.sum_eq_single k]
    · rw [if_pos rfl, one_mul]
    · intro e _ he
      rw [if_neg he, zero_mul]
    · exact fun h => absurd (Finset.mem_univ _) h

/-- The sum of each row of a pair of columns. -/
theorem pairSum_apply (v : FVec Ideal S64x2 .f32) (hφ : FKind.Formats .f32) (hacc : 0x00000000#32 = FKind.add.neutral .f32 hφ) (i : Fin 64) :
    multiReduction .add [1] S64 v 0x00000000#32 reduces_S64x2_S64 hφ hacc (ix1 i) = ∑ c : Fin 2, v (ix2 i c) :=
  (Ideal.multiReduction_add_single _ _ _ _ _ _).trans (Finset.sum_congr rfl fun (c : Fin 2) _ => congrArg v (funext fun a => by
    match a with
    | ⟨0, _⟩ => rfl
    | ⟨1, _⟩ => rfl))

/-- The coordinates' squares of a nearest unit, summed. -/
theorem bmuSq_apply (sy : FVec Ideal S512x1 .f32) (sx : FVec Ideal S64x1 .f32) (g : FVec Ideal S64x512 .f32) (gc : FVec Ideal S512x2 .f32)
    (i : Fin 64) (k : Fin 512) (hk : IsFirst (fun j => k1_pay13 (F := Ideal) sy sx g (ix2 i j)) k) :
    k1_pay15 sy sx g gc (ix2 i 0) = ∑ c : Fin 2, gc (ix2 k c) * gc (ix2 k c) := by
  have hb : ∀ c : Fin 2, _ := fun c => bmu_apply sy sx g gc i c k hk
  unfold k1_pay15
  generalize k1_pay14 (F := Ideal) sy sx g gc = p at hb ⊢
  refine (asColumn _ i).trans ((pairSum_apply _ _ _ _).trans (Finset.sum_congr rfl fun c _ => ?_))
  show p (ix2 i c) * p (ix2 i c) = _
  rw [hb c]

/-- Every unit's squares, summed by a product with ones. -/
theorem unitSq_apply (gc : FVec Ideal S512x2 .f32) (k : Fin 512) :
    matmul dot_S1x2_S512x2_S1x512_1_1_0_0_n_n (some .fp32) (k1_pay16 (F := Ideal)) (k1_pay17 gc) (constant S1x512 .f32 0x00000000#32) (ix2 0 k)
      = ∑ c : Fin 2, gc (ix2 k c) * gc (ix2 k c) := by
  refine (matmul_sum dot_S1x2_S512x2_S1x512_1_1_0_0_n_n _ 2 rfl rfl _ _ _ (fun c => ix2 0 c) (fun c => ix2 k c) ?_ ?_).trans ?_
  · intro q; funext a
    match a with
    | ⟨0, _⟩ => rfl
    | ⟨1, _⟩ => rfl
  · intro q; funext a
    match a with
    | ⟨0, _⟩ => rfl
    | ⟨1, _⟩ => rfl
  · refine Finset.sum_congr rfl fun c _ => ?_
    show Ideal.ofBits .f32 0x3F800000#32 * (gc (ix2 k c) * gc (ix2 k c)) = _
    rw [show Ideal.ofBits .f32 0x3F800000#32 = 1 by simp [Ideal.ofBits, Ideal.ieee, -EReal.coe_mul]; norm_num, one_mul]

/-- The products of the nearest units' coordinates and every unit's. -/
theorem cross_apply (p : FVec Ideal S64x2 .f32) (gc : FVec Ideal S512x2 .f32) (i : Fin 64) (k : Fin 512) :
    matmul dot_S64x2_S512x2_S64x512_1_1_0_0_n_n (some .fp32) p gc (constant S64x512 .f32 0x00000000#32) (ix2 i k)
      = ∑ c : Fin 2, p (ix2 i c) * gc (ix2 k c) := by
  refine matmul_sum dot_S64x2_S512x2_S64x512_1_1_0_0_n_n _ 2 rfl rfl _ _ _ (fun c => ix2 i c) (fun c => ix2 k c) ?_ ?_
  · intro q; funext a
    match a with
    | ⟨0, _⟩ => rfl
    | ⟨1, _⟩ => rfl
  · intro q; funext a
    match a with
    | ⟨0, _⟩ => rfl
    | ⟨1, _⟩ => rfl

/-- The grid's coordinates are real. -/
def RealGrid (gc : FVec Ideal S512x2 .f32) : Prop := ∀ k : Fin 512, ∃ r : Fin 2 → ℝ, (fun c : Fin 2 => gc (ix2 k c)) = fun c => (r c : EReal)

/-- The sum of a whole matrix, taken out of the vector it is left in. -/
theorem total_apply (v : FVec Ideal S64x512 .f32) (hφ : FKind.Formats .f32) (hacc : 0x00000000#32 = FKind.add.neutral .f32 hφ) :
    extractAt ![0, 0, 0] (shapeCast S1x1x1 (multiReduction .add [1, 2] S1 (shapeCast S1x64x512 v shapeCasts_S64x512_S1x64x512) 0x00000000#32
        reduces_S1x64x512_S1 hφ hacc) shapeCasts_S1_S1x1x1) inpos_S1x1x1_p0_0_0
      = ∑ i : Fin 64, ∑ k : Fin 512, v (ix2 i k) := by
  unfold extractAt
  refine Eq.trans (b := ∑ i, shapeCast S1x64x512 v shapeCasts_S64x512_S1x64x512 i) ?_ ((sum_shapeCast v _).trans (sum_idx2 _))
  exact Ideal.multiReduction_add_total _ _ _ (by decide) _ _ _

/-- The map's part of the loss. -/
theorem somLs_eq (gc : FVec Ideal S512x2 .f32) (hgc : RealGrid gc) (sg : EReal) (s : SomAcc Ideal) (p : Fin 64 → Fin 512)
    (hp : ∀ i, IsFirst (fun j => k1_pay13 (F := Ideal) s.sy s.sx s.g (ix2 i j)) (p i)) :
    somLs (F := Ideal) gc sg s = Ideal.div (∑ i : Fin 64, ∑ k : Fin 512,
        Ideal.exp (Ideal.div (-∑ c : Fin 2, (gc (ix2 (p i) c) - gc (ix2 k c)) * (gc (ix2 (p i) c) - gc (ix2 k c)))
          (Ideal.ofBits .f32 0x40000000#32 * (sg * sg))) * k1_pay13 (F := Ideal) s.sy s.sx s.g (ix2 i k))
      (Ideal.ofBits .f32 0x42800000#32) := by
  have h64 : Ideal.ofBits .f32 0x42800000#32 = ((64 : ℝ) : EReal) := by
    simp [Ideal.ofBits, Ideal.ieee, -EReal.coe_mul]; norm_num
  have h64' : Ideal.ofBits .f32 0x3C800000#32 = ((1 / 64 : ℝ) : EReal) := by
    simp [Ideal.ofBits, Ideal.ieee, -EReal.coe_mul]; norm_num
  rw [h64, Ideal.div_coe (by norm_num), ← h64']
  unfold somLs k1_pay11
  refine congrArg (fun z : EReal => z * Ideal.ofBits .f32 0x3C800000#32) ?_
  refine (total_apply _ _ _).trans ?_
  refine Finset.sum_congr rfl fun i _ => Finset.sum_congr rfl fun k _ => ?_
  refine congrArg (fun z : EReal => z * k1_pay13 (F := Ideal) s.sy s.sx s.g (ix2 i k)) ?_
  show Ideal.exp (Ideal.div (Ideal.ofBits .f32 0x00000000#32
    - max (broadcastTo S64x512 (k1_pay15 s.sy s.sx s.g gc) broadcasts_S64x1_S64x512 (ix2 i k)
        + broadcastTo S64x512 (matmul dot_S1x2_S512x2_S1x512_1_1_0_0_n_n (some .fp32) (k1_pay16 (F := Ideal)) (k1_pay17 gc) (constant S1x512 .f32 0x00000000#32)) broadcasts_S1x512_S64x512 (ix2 i k)
        - Ideal.ofBits .f32 0x40000000#32 * matmul dot_S64x2_S512x2_S64x512_1_1_0_0_n_n (some .fp32) (k1_pay14 s.sy s.sx s.g gc) gc (constant S64x512 .f32 0x00000000#32) (ix2 i k))
      (Ideal.ofBits .f32 0x00000000#32)) (Ideal.ofBits .f32 0x40000000#32 * sg * sg)) = _
  rw [overRows, overCols, unitSq_apply, cross_apply, bmuSq_apply _ _ _ _ i (p i) (hp i), Ideal.ofBits_zero_f32]
  simp only [bmu_apply _ _ _ gc i _ (p i) (hp i)]
  rw [apart_sq (fun c => gc (ix2 (p i) c)) (fun c => gc (ix2 k c)) (hgc _) (hgc _), zero_sub, mul_assoc]

end Cert.Som
-- ==== Proof.Tile.lean ====
/-
  What the second call's points add up to, number by number: at each point the products and the squares
  over the point's 5376 places of a row, and after the last point those over the whole row.
-/
module

public import proofs.«01_k».proof.Proof.Ending

@[expose] public section

set_option maxRecDepth 16384

noncomputable section

namespace Cert.Som

open Cert.KernelIdeal Cert.KernelIdeal.Gen
open Idealize.ShloMosaic Idealize.ShloMosaic.ValueIdx

/-- Point `t` reads the rows `X` and the units `Y` at its own places. -/
structure Reads (X : Fin 64 → ℕ → EReal) (Y : Fin 512 → ℕ → EReal) (t : ℕ) (x : SomIn Ideal) : Prop where
  rows : ∀ (j : Fin 14) (i : Fin 64) (l : Fin 384), x.x j (ix3 0 i l) = X i (5376 * t + (384 * j.val + l.val))
  lo : ∀ (k : Fin 256) (e : Fin 5376), x.w0 (ix2 k e) = Y ⟨k.val, by omega⟩ (5376 * t + e.val)
  hi : ∀ (k : Fin 256) (e : Fin 5376), x.w1 (ix2 k e) = Y ⟨k.val + 256, by omega⟩ (5376 * t + e.val)

/-- The point's part of the rows. -/
def tile (x : SomIn Ideal) : FVec Ideal S64x5376 .f32 :=
  k1_pay1 (k1_pay18 (x.x 0)) (k1_pay19 (x.x 1)) (k1_pay20 (x.x 2)) (k1_pay21 (x.x 3)) (k1_pay22 (x.x 4)) (k1_pay23 (x.x 5)) (k1_pay24 (x.x 6)) (k1_pay25 (x.x 7)) (k1_pay26 (x.x 8)) (k1_pay27 (x.x 9)) (k1_pay28 (x.x 10)) (x.x 11) (x.x 12) (x.x 13)

variable {X : Fin 64 → ℕ → EReal} {Y : Fin 512 → ℕ → EReal} {t : ℕ} {x : SomIn Ideal}

theorem tile_apply (hx : Reads X Y t x) (i : Fin 64) (e : Fin 5376) : tile x (ix2 i e) = X i (5376 * t + e.val) := by
  have he := e.isLt
  have hj : e.val / 384 < 14 := by omega
  have hl : e.val % 384 < 384 := by omega
  have hsum : e.val = 384 * (e.val / 384) + e.val % 384 := by omega
  have hr := hx.rows ⟨e.val / 384, hj⟩ i ⟨e.val % 384, hl⟩
  rw [hsum, ← hr]
  refine Eq.trans ?_ (shapeCast_dropUnit_apply ![64, 384] (x.x ⟨e.val / 384, hj⟩) shapeCasts_S1x64x384_S64x384 (ix2 i ⟨e.val % 384, hl⟩) |>.trans ?_)
  · unfold tile k1_pay1
    refine concatenate_ofFn_apply (t := S64x5376) (s₁ := S64x384) 1 (fun n : Fin 14 => shapeCast S64x384 (x.x n) shapeCasts_S1x64x384_S64x384) _ rfl 384 rfl (ix2 i e)
      ⟨e.val / 384, hj⟩ rfl (ix2 i ⟨e.val % 384, hl⟩) rfl ?_
    intro b hb
    match b with
    | ⟨0, _⟩ => rfl
    | ⟨1, _⟩ => exact absurd rfl hb
  · refine congrArg (x.x ⟨e.val / 384, hj⟩) (funext fun a => ?_)
    match a with
    | ⟨0, _⟩ => rfl
    | ⟨1, _⟩ => rfl
    | ⟨2, _⟩ => rfl

/-- A product of the point's rows with half of its units. -/
theorem half_apply (l : FVec Ideal S64x5376 .f32) (w : FVec Ideal S256x5376 .f32) (i : Fin 64) (k : Fin 256) :
    matmul dot_S64x5376_S256x5376_S64x256_1_1_0_0_n_n none l w (constant S64x256 .f32 0x00000000#32) (ix2 i k)
      = ∑ e : Fin 5376, l (ix2 i e) * w (ix2 k e) := by
  refine matmul_sum dot_S64x5376_S256x5376_S64x256_1_1_0_0_n_n _ 5376 rfl rfl _ _ _ (fun e => ix2 i e) (fun e => ix2 k e) ?_ ?_
  · intro q; funext a
    match a with
    | ⟨0, _⟩ => rfl
    | ⟨1, _⟩ => rfl
  · intro q; funext a
    match a with
    | ⟨0, _⟩ => rfl
    | ⟨1, _⟩ => rfl

/-- The point's products. -/
theorem dot_apply (hx : Reads X Y t x) (i : Fin 64) (k : Fin 512) :
    somDot x (ix2 i k) = ∑ e : Fin 5376, X i (5376 * t + e.val) * Y k (5376 * t + e.val) := by
  have hk := k.isLt
  unfold somDot k1_pay2
  by_cases h : k.val < 256
  · refine (concatenate_pair_apply_left (t := S64x512) (s₁ := S64x256) (s₂ := S64x256) 1 _ _ _ (ix2 i k) rfl (ix2 i ⟨k.val, h⟩) ?_).trans
      ((half_apply (tile x) x.w0 i ⟨k.val, h⟩).trans (Finset.sum_congr rfl fun e _ => ?_))
    · intro b
      match b with
      | ⟨0, _⟩ => rfl
      | ⟨1, _⟩ => rfl
    · rw [tile_apply hx, hx.lo]
  · have hh : k.val - 256 < 256 := by omega
    refine (concatenate_pair_apply_right (t := S64x512) (s₁ := S64x256) (s₂ := S64x256) 1 _ _ _ (ix2 i k) rfl rfl (ix2 i ⟨k.val - 256, hh⟩) ?_ ?_).trans
      ((half_apply (tile x) x.w1 i ⟨k.val - 256, hh⟩).trans (Finset.sum_congr rfl fun e _ => ?_))
    · intro b hb
      match b with
      | ⟨0, _⟩ => rfl
      | ⟨1, _⟩ => exact absurd rfl hb
    · show k.val - 256 + 256 = k.val
      omega
    · rw [tile_apply hx, hx.hi]
      refine congrArg (fun q : Fin 512 => X i _ * Y q _) (Fin.ext ?_)
      show k.val - 256 + 256 = k.val
      omega

/-- A row's sum, for the rows and for half of the units. -/
theorem tileSum_apply (v : FVec Ideal S64x5376 .f32) (hφ : FKind.Formats .f32) (hacc : 0x00000000#32 = FKind.add.neutral .f32 hφ) (i : Fin 64) :
    multiReduction .add [1] S64 v 0x00000000#32 reduces_S64x5376_S64 hφ hacc (ix1 i) = ∑ e : Fin 5376, v (ix2 i e) :=
  (Ideal.multiReduction_add_single _ _ _ _ _ _).trans (Finset.sum_congr rfl fun (c : Fin 5376) _ => congrArg v (funext fun a => by
    match a with
    | ⟨0, _⟩ => rfl
    | ⟨1, _⟩ => rfl))

theorem halfSum_apply (v : FVec Ideal S256x5376 .f32) (hφ : FKind.Formats .f32) (hacc : 0x00000000#32 = FKind.add.neutral .f32 hφ) (i : Fin 256) :
    shapeCast S256x1 (multiReduction .add [1] S256 v 0x00000000#32 reduces_S256x5376_S256 hφ hacc) shapeCasts_S256_S256x1 (ix2 i 0)
      = ∑ e : Fin 5376, v (ix2 i e) :=
  (shapeCast_apply _ _ _ (ix1 i) (by
    rw [Shape.rowMajor_val_one, Shape.rowMajor_val_two]
    show i.val = i.val * 1 + 0
    omega)).trans
  ((Ideal.multiReduction_add_single _ _ _ _ _ _).trans (Finset.sum_congr rfl fun (c : Fin 5376) _ => congrArg v (funext fun a => by
    match a with
    | ⟨0, _⟩ => rfl
    | ⟨1, _⟩ => rfl)))

/-- The point's squares of a row. -/
theorem sqX_apply (hx : Reads X Y t x) (i : Fin 64) :
    k1_pay3 (k1_pay18 (x.x 0)) (k1_pay19 (x.x 1)) (k1_pay20 (x.x 2)) (k1_pay21 (x.x 3)) (k1_pay22 (x.x 4)) (k1_pay23 (x.x 5)) (k1_pay24 (x.x 6)) (k1_pay25 (x.x 7)) (k1_pay26 (x.x 8)) (k1_pay27 (x.x 9)) (k1_pay28 (x.x 10)) (x.x 11) (x.x 12) (x.x 13) (ix2 i 0)
      = ∑ e : Fin 5376, X i (5376 * t + e.val) * X i (5376 * t + e.val) := by
  unfold k1_pay3
  refine (asColumn _ i).trans ((tileSum_apply (mulf (tile x) (tile x)) _ _ i).trans (Finset.sum_congr rfl fun e _ => ?_))
  show tile x (ix2 i e) * tile x (ix2 i e) = _
  rw [tile_apply hx]

/-- The point's squares of a unit. -/
theorem sqY_apply (hx : Reads X Y t x) (k : Fin 512) :
    k1_pay4 (F := Ideal) x.w0 x.w1 (ix2 k 0) = ∑ e : Fin 5376, Y k (5376 * t + e.val) * Y k (5376 * t + e.val) := by
  have hk := k.isLt
  unfold k1_pay4
  by_cases h : k.val < 256
  · refine (concatenate_pair_apply_left (t := S512x1) (s₁ := S256x1) (s₂ := S256x1) 0 _ _ _ (ix2 k 0) rfl (ix2 ⟨k.val, h⟩ 0) ?_).trans
      ((halfSum_apply (mulf x.w0 x.w0) _ _ ⟨k.val, h⟩).trans (Finset.sum_congr rfl fun e _ => ?_))
    · intro b
      match b with
      | ⟨0, _⟩ => rfl
      | ⟨1, _⟩ => rfl
    · show x.w0 (ix2 ⟨k.val, h⟩ e) * x.w0 (ix2 ⟨k.val, h⟩ e) = _
      rw [hx.lo]
  · have hh : k.val - 256 < 256 := by omega
    have hq : (⟨k.val - 256 + 256, by omega⟩ : Fin 512) = k := Fin.ext (by show k.val - 256 + 256 = k.val; omega)
    refine (concatenate_pair_apply_right (t := S512x1) (s₁ := S256x1) (s₂ := S256x1) 0 _ _ _ (ix2 k 0) rfl rfl (ix2 ⟨k.val - 256, hh⟩ 0) ?_ ?_).trans
      ((halfSum_apply (mulf x.w1 x.w1) _ _ ⟨k.val - 256, hh⟩).trans (Finset.sum_congr rfl fun e _ => ?_))
    · intro b hb
      match b with
      | ⟨0, _⟩ => exact absurd rfl hb
      | ⟨1, _⟩ => rfl
    · show k.val - 256 + 256 = k.val
      omega
    · show x.w1 (ix2 ⟨k.val - 256, hh⟩ e) * x.w1 (ix2 ⟨k.val - 256, hh⟩ e) = _
      rw [hx.hi, hq]

/-- The accumulators hold the sums over the first `n` places. -/
structure Sums (X : Fin 64 → ℕ → EReal) (Y : Fin 512 → ℕ → EReal) (n : ℕ) (s : SomAcc Ideal) : Prop where
  g : ∀ (i : Fin 64) (k : Fin 512), s.g (ix2 i k) = ∑ e ∈ Finset.range n, X i e * Y k e
  sx : ∀ i : Fin 64, s.sx (ix2 i 0) = ∑ e ∈ Finset.range n, X i e * X i e
  sy : ∀ k : Fin 512, s.sy (ix2 k 0) = ∑ e ∈ Finset.range n, Y k e * Y k e

theorem sum_next (f : ℕ → EReal) (n : ℕ) :
    (∑ e ∈ Finset.range (5376 * n), f e) + ∑ e : Fin 5376, f (5376 * n + e.val) = ∑ e ∈ Finset.range (5376 * (n + 1)), f e := by
  rw [Nat.mul_succ, Finset.sum_range_add, Finset.sum_range (fun e => f (5376 * n + e))]

theorem sums_init (hx : Reads X Y 0 x) : Sums X Y (5376 * (0 + 1)) (somInit x) where
  g i k := by
    rw [← sum_next, Nat.mul_zero, Finset.range_zero, Finset.sum_empty, zero_add]
    exact (congrFun (shapeCast_self _ _) _).trans (dot_apply hx i k)
  sx i := by
    rw [← sum_next, Nat.mul_zero, Finset.range_zero, Finset.sum_empty, zero_add]
    exact (congrFun (shapeCast_self _ _) _).trans (sqX_apply hx i)
  sy k := by
    rw [← sum_next, Nat.mul_zero, Finset.range_zero, Finset.sum_empty, zero_add]
    exact (congrFun (shapeCast_self _ _) _).trans (sqY_apply hx k)

theorem sums_next {s : SomAcc Ideal} (hx : Reads X Y t x) (hs : Sums X Y (5376 * t) s) : Sums X Y (5376 * (t + 1)) (somNext x s) where
  g i k := by
    rw [← sum_next, ← hs.g, ← dot_apply hx]
    exact congrFun (shapeCast_self (addf s.g (somDot x)) rfl) _
  sx i := by
    rw [← sum_next, ← hs.sx, ← sqX_apply hx]
    exact congrFun (shapeCast_self (addf s.sx (k1_pay3 (k1_pay18 (x.x 0)) (k1_pay19 (x.x 1)) (k1_pay20 (x.x 2)) (k1_pay21 (x.x 3)) (k1_pay22 (x.x 4)) (k1_pay23 (x.x 5)) (k1_pay24 (x.x 6)) (k1_pay25 (x.x 7)) (k1_pay26 (x.x 8)) (k1_pay27 (x.x 9)) (k1_pay28 (x.x 10)) (x.x 11) (x.x 12) (x.x 13))) rfl) _
  sy k := by
    rw [← sum_next, ← hs.sy, ← sqY_apply hx]
    exact congrFun (shapeCast_self (addf s.sy (k1_pay4 x.w0 x.w1)) rfl) _

end Cert.Som
-- ==== Proof.Reading.lean ====
/-
  What the calls' windows read and write, number by number: each input's block at a point as part of the array it is
  taken from, and each result's array at the end.
-/
module

public import proofs.«01_k».proof.Proof.Launch
public import proofs.«01_k».proof.Proof.Tile

@[expose] public section

set_option maxRecDepth 16384

noncomputable section

namespace Cert.Som

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem point0_lt : ∀ t : Fin cfg0.N, t.val < 12 := by decide +kernel
theorem point1_lt : ∀ t : Fin cfg1.N, t.val < 14 := by decide +kernel

/-- The first call's point `t` reads sixteen images of each batch. -/
theorem mseBlk0 (c : Dev nD) (t : Fin cfg0.N) (a : Fin 16) (b e : Fin 224) :
    mseBlk V c 0 t (ix3 a b e) = V c main_v0 (ix3 ⟨16 * t.val + a.val, by have := point0_lt t; omega⟩ b e) := by
  refine congrArg (V c main_v0) (funext fun q => Fin.ext ?_)
  match q with
  | ⟨0, _⟩ =>
    change _ + 1 * a.val = 16 * t.val + a.val
    rw [Nat.one_mul]
    exact congrArg (· + a.val) (by clear a b e; revert t; decide +kernel)
  | ⟨1, _⟩ =>
    change _ + 1 * b.val = b.val
    rw [Nat.one_mul]
    exact Nat.add_eq_right.mpr (by clear a b e; revert t; decide +kernel)
  | ⟨2, _⟩ =>
    change _ + 1 * e.val = e.val
    rw [Nat.one_mul]
    exact Nat.add_eq_right.mpr (by clear a b e; revert t; decide +kernel)
theorem mseBlk1 (c : Dev nD) (t : Fin cfg0.N) (a : Fin 16) (b e : Fin 224) :
    mseBlk V c 1 t (ix3 a b e) = V c main_v1 (ix3 ⟨16 * t.val + a.val, by have := point0_lt t; omega⟩ b e) := by
  refine congrArg (V c main_v1) (funext fun q => Fin.ext ?_)
  match q with
  | ⟨0, _⟩ =>
    change _ + 1 * a.val = 16 * t.val + a.val
    rw [Nat.one_mul]
    exact congrArg (· + a.val) (by clear a b e; revert t; decide +kernel)
  | ⟨1, _⟩ =>
    change _ + 1 * b.val = b.val
    rw [Nat.one_mul]
    exact Nat.add_eq_right.mpr (by clear a b e; revert t; decide +kernel)
  | ⟨2, _⟩ =>
    change _ + 1 * e.val = e.val
    rw [Nat.one_mul]
    exact Nat.add_eq_right.mpr (by clear a b e; revert t; decide +kernel)

/-- The second call's point `t` reads fourteen tokens of every row, past the first token, -/
theorem somX_apply (c : Dev nD) (t : Fin cfg1.N) (j : Fin 14) (i : Fin 64) (l : Fin 384) :
    (somIn V c t).x j (ix3 0 i l) = V c main_v2 (ix3 ⟨1 + 14 * t.val + j.val, by have := point1_lt t; omega⟩ i l) := by
  fin_cases j <;>
  · refine congrArg (V c main_v2) (funext fun q => Fin.ext ?_)
    match q with
    | ⟨0, _⟩ =>
      change _ + 1 * 0 = 1 + 14 * t.val + _
      clear i l
      revert t; decide +kernel
    | ⟨1, _⟩ =>
      change _ + 1 * i.val = i.val
      rw [Nat.one_mul]
      exact Nat.add_eq_right.mpr (by clear i l; revert t; decide +kernel)
    | ⟨2, _⟩ =>
      change _ + 1 * l.val = l.val
      rw [Nat.one_mul]
      exact Nat.add_eq_right.mpr (by clear i l; revert t; decide +kernel)

/-- and as many places of the units, in two halves. -/
theorem somW0_apply (c : Dev nD) (t : Fin cfg1.N) (k : Fin 256) (e : Fin 5376) :
    (somIn V c t).w0 (ix2 k e)
      = V c main_arg3 (ix2 ⟨k.val, by omega⟩ ⟨5376 * t.val + e.val, by have := point1_lt t; omega⟩) := by
  refine congrArg (V c main_arg3) (funext fun q => Fin.ext ?_)
  match q with
  | ⟨0, _⟩ =>
    change _ + 1 * k.val = k.val
    rw [Nat.one_mul]
    exact Nat.add_eq_right.mpr (by clear k e; revert t; decide +kernel)
  | ⟨1, _⟩ =>
    change _ + 1 * e.val = 5376 * t.val + e.val
    rw [Nat.one_mul]
    exact congrArg (· + e.val) (by clear k e; revert t; decide +kernel)
theorem somW1_apply (c : Dev nD) (t : Fin cfg1.N) (k : Fin 256) (e : Fin 5376) :
    (somIn V c t).w1 (ix2 k e)
      = V c main_arg3 (ix2 ⟨k.val + 256, by omega⟩ ⟨5376 * t.val + e.val, by have := point1_lt t; omega⟩) := by
  refine congrArg (V c main_arg3) (funext fun q => Fin.ext ?_)
  match q with
  | ⟨0, _⟩ =>
    change _ + 1 * k.val = k.val + 256
    rw [Nat.one_mul, Nat.add_comm k.val]
    exact congrArg (· + k.val) (by clear k e; revert t; decide +kernel)
  | ⟨1, _⟩ =>
    change _ + 1 * e.val = 5376 * t.val + e.val
    rw [Nat.one_mul]
    exact congrArg (· + e.val) (by clear k e; revert t; decide +kernel)

/-- It reads the units' coordinates whole, -/
theorem somGc_eq (c : Dev nD) (t : Fin cfg1.N) : (somIn V c t).gc = V c main_arg4 := by
  funext i
  refine congrArg (V c main_arg4) (funext fun q => Fin.ext ?_)
  match q with
  | ⟨0, h⟩ =>
    change _ + 1 * (i ⟨0, h⟩).val = (i ⟨0, h⟩).val
    rw [Nat.one_mul]
    exact Nat.add_eq_right.mpr (by clear i; revert t; decide +kernel)
  | ⟨1, h⟩ =>
    change _ + 1 * (i ⟨1, h⟩).val = (i ⟨1, h⟩).val
    rw [Nat.one_mul]
    exact Nat.add_eq_right.mpr (by clear i; revert t; decide +kernel)

instance one_subsingleton : Subsingleton S1.Idx :=
  ⟨fun i j => funext fun a => Fin.ext (by
    match a with
    | ⟨0, h⟩ =>
      have hi : (i ⟨0, h⟩).val < 1 := (i ⟨0, h⟩).isLt
      have hj : (j ⟨0, h⟩).val < 1 := (j ⟨0, h⟩).isLt
      omega)⟩

/-- and the three numbers. -/
theorem somSig_eq (c : Dev nD) (t : Fin cfg1.N) : only (somIn V c t).sig = V c main_v3 (ix1 0) :=
  congrArg (V c main_v3) (one_subsingleton.elim _ _)
theorem somLam_eq (c : Dev nD) (t : Fin cfg1.N) : only (somIn V c t).lam = V c main_v4 (ix1 0) :=
  congrArg (V c main_v4) (one_subsingleton.elim _ _)
theorem somLnn_eq (c : Dev nD) (t : Fin cfg1.N) : only (somIn V c t).lnn = V c main_v5 (ix1 0) :=
  congrArg (V c main_v5) (one_subsingleton.elim _ _)

/-- What the first call leaves in its result. -/
theorem mse_result (c : Dev nD) : (mseDat V c).arrAt 2 cfg0.N = fun _ => k0_pay3 (mseAcc V c 11 (by decide +kernel)) := by
  refine (mseDat V c).arrAt_eq_of_cover 2 (fun _ => k0_pay3 (mseAcc V c 11 (by decide +kernel))) ?_ ?_
  · intro t ht
    have h : t.val = 11 := by
      by_contra h
      rw [mse_noFlush2 t h] at ht
      exact Bool.false_ne_true ht
    obtain ⟨n, hn⟩ := t
    simp only at h
    subst h
    unfold Dat.flushed
    rw [mse_after2]
    rfl
  · intro i
    refine ⟨⟨11, by decide +kernel⟩, by decide +kernel, ?_⟩
    exact Finset.mem_map.mpr ⟨ix1 0, Finset.mem_univ _, one_subsingleton.elim _ _⟩

theorem last_lt : 13 < cfg1.N := by decide +kernel

/-- What the second call leaves in its results. -/
theorem som_flush_last (w : Fin 23) (hw : 20 ≤ w.val) (t : Fin cfg1.N) (ht : (cfg1.win w).flush t = true) : t = ⟨13, last_lt⟩ := by
  by_contra h
  rw [(som_out_idle w hw t fun e => h (Fin.ext e)).2] at ht
  exact Bool.false_ne_true ht
theorem som_lt (c : Dev nD) : (somDat V c).arrAt 20 cfg1.N = (somRes V c ⟨13, last_lt⟩).lt := by
  refine (somDat V c).arrAt_eq_of_cover 20 (somRes V c ⟨13, last_lt⟩).lt ?_ ?_
  · intro t ht
    obtain rfl := som_flush_last 20 (by decide) t ht
    unfold Dat.flushed
    rw [som_after20]
    rfl
  · intro i
    refine ⟨⟨13, last_lt⟩, by decide +kernel, ?_⟩
    exact Finset.mem_map.mpr ⟨ix1 0, Finset.mem_univ _, one_subsingleton.elim _ _⟩
theorem som_ln (c : Dev nD) : (somDat V c).arrAt 21 cfg1.N = (somRes V c ⟨13, last_lt⟩).ln := by
  refine (somDat V c).arrAt_eq_of_cover 21 (somRes V c ⟨13, last_lt⟩).ln ?_ ?_
  · intro t ht
    obtain rfl := som_flush_last 21 (by decide) t ht
    unfold Dat.flushed
    rw [som_after21]
    rfl
  · intro i
    refine ⟨⟨13, last_lt⟩, by decide +kernel, ?_⟩
    exact Finset.mem_map.mpr ⟨ix1 0, Finset.mem_univ _, one_subsingleton.elim _ _⟩
theorem som_ls (c : Dev nD) : (somDat V c).arrAt 22 cfg1.N = (somRes V c ⟨13, last_lt⟩).ls := by
  refine (somDat V c).arrAt_eq_of_cover 22 (somRes V c ⟨13, last_lt⟩).ls ?_ ?_
  · intro t ht
    obtain rfl := som_flush_last 22 (by decide) t ht
    unfold Dat.flushed
    rw [som_after22]
    rfl
  · intro i
    refine ⟨⟨13, last_lt⟩, by decide +kernel, ?_⟩
    exact Finset.mem_map.mpr ⟨ix1 0, Finset.mem_univ _, one_subsingleton.elim _ _⟩

end Cert.Som
-- ==== Proof.RefValue.lean ====
/-
  The reference's three results on the extended reals, as sums.
-/
module

public import proofs.«01_k».proof.Proof.Nearest

@[expose] public section

set_option maxRecDepth 16384

noncomputable section

namespace Cert.Som.Ref

open Cert.ReferenceIdeal Cert.ReferenceIdeal.Gen
open Idealize.ShloMosaic Idealize.ShloMosaic.ValueIdx

/-- A sum along one axis. -/
theorem sum_axis {s t : Shape} {a : Fin s.rank} (x : FVec Ideal s .f32) (h' : s.ReducesTo [a] t) (h : s.Reduces [a] t) (j : t.Idx) :
    Host.reduceAdd x (constant (F := Ideal) S_ .f32 0x00000000#32) h' h_S_ j = ∑ k : Fin (s.size a), x (h.lift j k) := by
  refine (Ideal.hostReduceAdd_single h' h x _ j).trans ?_
  show Ideal.ofBits .f32 0x00000000#32 + _ = _
  rw [Ideal.ofBits_zero_f32, zero_add]

/-- A sum of everything. -/
theorem sum_all {s : Shape} {axes : List (Fin s.rank)} (x : FVec Ideal s .f32) (h' : s.ReducesTo axes S_) (j : S_.Idx) :
    Host.reduceAdd x (constant (F := Ideal) S_ .f32 0x00000000#32) h' h_S_ j = ∑ i, x i := by
  refine (Ideal.hostReduceAdd_total h' (fun b => b.elim0) x _ j).trans ?_
  show Ideal.ofBits .f32 0x00000000#32 + _ = _
  rw [Ideal.ofBits_zero_f32, zero_add]

/-- The mean squared difference. -/
theorem lossNn_eq (a b : FVec Ideal S64x3x224x224 .f32) (j : S_.Idx) :
    lossNn a b j = Ideal.div (∑ i, (a i - b i) * (a i - b i)) (Ideal.ofBits .f32 0x4B130000#32) := by
  show Ideal.div (Host.reduceAdd (mulf (subf a b) (subf a b)) (constant (F := Ideal) S_ .f32 0x00000000#32) reducesTo_S64x3x224x224_S_d0_1_2_3 h_S_ j) _ = _
  rw [sum_all]
  rfl

/-- An element of a matrix over its row's norm. -/
theorem unit_eq {n D : Nat} (x : FVec Ideal ⟨2, ![n, D]⟩ .f32) (h₁ : (⟨2, ![n, 1]⟩ : Shape).BroadcastsInDim ⟨2, ![n, D]⟩ ![0, 1])
    (h₂ : (⟨1, ![n]⟩ : Shape).BroadcastsInDim ⟨2, ![n, 1]⟩ ![0]) (h₃ : S_.BroadcastsInDim ⟨2, ![n, 1]⟩ ![])
    (h' : (⟨2, ![n, D]⟩ : Shape).ReducesTo [1] ⟨1, ![n]⟩) (h : (⟨2, ![n, D]⟩ : Shape).Reduces [1] ⟨1, ![n]⟩) (i : Fin n) (e : Fin D) :
    Host.divf x (broadcastInDim ⟨2, ![n, D]⟩ ![0, 1] h₁
      (addf (Host.sqrt (broadcastInDim ⟨2, ![n, 1]⟩ ![0] h₂
          (Host.reduceAdd (mulf x x) (constant S_ .f32 0x00000000#32) h' h_S_)))
        (broadcastInDim ⟨2, ![n, 1]⟩ ![] h₃ (constant S_ .f32 0x322BCC77#32)))) (ix2 i e)
      = Ideal.div (x (ix2 i e)) (norm fun e : Fin D => x (ix2 i e)) := by
  have hi := i.isLt
  refine congrArg (Ideal.div (x (ix2 i e))) ((broadcastInDim_apply _ _ _ _ (ix2 i 0) (fun a => ?_)).trans ?_)
  · match a with
    | ⟨0, _⟩ => show i.val = if n = 1 then 0 else i.val; split <;> omega
    | ⟨1, _⟩ => rfl
  show Ideal.sqrt (broadcastInDim ⟨2, ![n, 1]⟩ ![0] h₂ (Host.reduceAdd (mulf x x) (constant S_ .f32 0x00000000#32) h' h_S_) (ix2 i 0))
    + Ideal.ofBits .f32 0x322BCC77#32 = _
  rw [broadcastInDim_apply _ _ _ _ (ix1 i) (fun a => by
    match a with
    | ⟨0, _⟩ => show i.val = if n = 1 then 0 else i.val; split <;> omega), sum_axis _ _ h]
  unfold norm
  refine congrArg (fun z => Ideal.sqrt z + _) (Finset.sum_congr rfl fun k _ => ?_)
  refine congrArg (fun q => x q * x q) (funext fun a => ?_)
  match a with
  | ⟨0, _⟩ => rfl
  | ⟨1, _⟩ => rfl

theorem unitX_eq (x : FVec Ideal S64x75264 .f32) (i : Fin 64) (e : Fin 75264) :
    unitX x (ix2 i e) = Ideal.div (x (ix2 i e)) (norm fun e : Fin 75264 => x (ix2 i e)) :=
  unit_eq (n := 64) (D := 75264) x _ _ _ _ (by decide) i e

theorem unitW_eq (x : FVec Ideal S512x75264 .f32) (i : Fin 512) (e : Fin 75264) :
    unitW x (ix2 i e) = Ideal.div (x (ix2 i e)) (norm fun e : Fin 75264 => x (ix2 i e)) :=
  unit_eq (n := 512) (D := 75264) x _ _ _ _ (by decide) i e

/-- A distance: one less the product of the rows over the product of the norms. -/
theorem dists_eq (x : FVec Ideal S64x197x384 .f32) (w : FVec Ideal S512x75264 .f32) (i : Fin 64) (k : Fin 512) :
    dists x w (ix2 i k) = Ideal.ofBits .f32 0x3F800000#32 - Ideal.div (∑ e : Fin 75264, rows x (ix2 i e) * w (ix2 k e))
      ((norm fun e : Fin 75264 => rows x (ix2 i e)) * norm fun e : Fin 75264 => w (ix2 k e)) := by
  rw [← cosine]
  show _ - Host.dotGeneral dot_S64x75264_S75264x512_S64x512_1_0_0_1_n_n none (unitX (rows x))
      (transpose S75264x512 [1, 0] (unitW w) transposes_S512x75264_S75264x512_1_0) (ix2 i k) = _
  refine congrArg (fun z => Ideal.ofBits .f32 0x3F800000#32 - z) ?_
  refine (Ideal.dotGeneral_apply _ _ _ _ _ _).trans ?_
  rw [← Equiv.sum_comp (contrEquiv1 dot_S64x75264_S75264x512_S64x512_1_0_0_1_n_n 75264 rfl rfl)]
  refine Finset.sum_congr rfl fun q _ => ?_
  rw [← unitX_eq, ← unitW_eq]
  refine congrArg₂ (· * ·) (congrArg (unitX (rows x)) (funext fun a => ?_)) (transpose_apply _ _ _ _ _ fun a => ?_)
  · match a with
    | ⟨0, _⟩ => rfl
    | ⟨1, _⟩ => rfl
  · match a with
    | ⟨0, _⟩ => rfl
    | ⟨1, _⟩ => rfl

/-- A neighbourhood weight. -/
theorem nbhd_eq (gc : FVec Ideal S512x2 .f32) (sg : FVec Ideal S_ .f32) (p : FVec Ideal S64x2 .f32) (i : Fin 64) (k : Fin 512) :
    nbhd gc sg p (ix2 i k) = Ideal.exp (Ideal.div (-∑ c : Fin 2, (p (ix2 i c) - gc (ix2 k c)) * (p (ix2 i c) - gc (ix2 k c)))
      (Ideal.ofBits .f32 0x40000000#32 * (sg ix0 * sg ix0))) := by
  show Ideal.exp (Ideal.div (-(Host.reduceAdd (mulf (apart gc p) (apart gc p)) (constant (F := Ideal) S_ .f32 0x00000000#32)
    reducesTo_S64x512x2_S64x512_d2 h_S_ (ix2 i k))) (broadcastInDim S64x512 ![] bcast_S_S64x512 (mulf (constant S_ .f32 0x40000000#32) (mulf sg sg)) (ix2 i k))) = _
  rw [broadcastInDim_apply _ _ _ _ ix0 (fun a => a.elim0), sum_axis _ _ (by decide)]
  refine congrArg (fun z => Ideal.exp (Ideal.div (-z) _)) (Finset.sum_congr rfl fun c _ => ?_)
  refine congrArg (fun z : EReal => z * z) ?_
  refine congrArg₂ (fun a b : EReal => a - b) ?_ ?_
  · refine (broadcastInDim_apply _ _ _ _ (ix3 i 0 c) (fun a => ?_)).trans (broadcastInDim_apply _ _ _ _ (ix2 i c) (fun a => ?_))
    · match a with
      | ⟨0, _⟩ => rfl
      | ⟨1, _⟩ => rfl
      | ⟨2, _⟩ => rfl
    · match a with
      | ⟨0, _⟩ => rfl
      | ⟨1, _⟩ => rfl
  · refine (broadcastInDim_apply _ _ _ _ (ix3 0 k c) (fun a => ?_)).trans (broadcastInDim_apply _ _ _ _ (ix2 k c) (fun a => ?_))
    · match a with
      | ⟨0, _⟩ => rfl
      | ⟨1, _⟩ => rfl
      | ⟨2, _⟩ => rfl
    · match a with
      | ⟨0, _⟩ => rfl
      | ⟨1, _⟩ => rfl

/-- The map's loss, from the nearest units. -/
theorem lossSom_eq (gc : FVec Ideal S512x2 .f32) (sg : FVec Ideal S_ .f32) (d : FVec Ideal S64x512 .f32) (p : Fin 64 → Fin 512)
    (hp : ∀ i, IsFirst (fun j => d (ix2 i j)) (p i)) (j : S_.Idx) :
    lossSom gc sg d j = Ideal.div (∑ i : Fin 64, ∑ k : Fin 512,
        Ideal.exp (Ideal.div (-∑ c : Fin 2, (gc (ix2 (p i) c) - gc (ix2 k c)) * (gc (ix2 (p i) c) - gc (ix2 k c)))
          (Ideal.ofBits .f32 0x40000000#32 * (sg ix0 * sg ix0))) * d (ix2 i k))
      (Ideal.ofBits .f32 0x42800000#32) := by
  show Ideal.div (Host.reduceAdd _ (constant (F := Ideal) S_ .f32 0x00000000#32) reducesTo_S64_S_d0 h_S_ j) _ = _
  rw [sum_all]
  refine congrArg (fun z => Ideal.div z _) ?_
  rw [← Equiv.sum_comp (⟨fun i => ix1 i, fun q => q 0, fun _ => rfl, fun q => (eq_ix1 q).symm⟩ : Fin 64 ≃ S64.Idx)]
  refine Finset.sum_congr rfl fun i _ => (sum_axis _ _ (by decide) _).trans (Finset.sum_congr rfl fun (k : Fin 512) _ => ?_)
  have hl : (by decide : S64x512.Reduces [1] S64).lift (ix1 i) k = ix2 (n0 := 64) (n1 := 512) i k := funext fun a => by
    match a with
    | ⟨0, _⟩ => rfl
    | ⟨1, _⟩ => rfl
  show (mulf (nbhd gc sg (place gc (near d))) d) ((by decide : S64x512.Reduces [1] S64).lift (ix1 i) k) = _
  rw [hl]
  show nbhd gc sg (place gc (near d)) (ix2 i k) * d (ix2 i k) = _
  rw [nbhd_eq]
  simp only [place_eq gc (near d) i _ (p i) (near_eq d i (p i) (hp i))]

end Cert.Som.Ref
-- ==== Proof.MseValue.lean ====
/-
  The mean squared error as the first call computes it: the points' sums are the sum over the whole batch,
  and the named reciprocal times it is the division the reference does.
-/
module

public import proofs.«01_k».proof.Proof.Reading
public import proofs.«01_k».proof.Proof.RefValue

@[expose] public section

set_option maxRecDepth 16384

noncomputable section

namespace Cert.Som

open Cert.KernelIdeal Cert.KernelIdeal.Gen
open Idealize.ShloMosaic Idealize.ShloMosaic.TcCoe Idealize.ShloMosaic.ValueIdx

/-- A sum over three axes, one inside the other. -/
theorem sum_three {a b c : ℕ} (f : (⟨3, ![a, b, c]⟩ : Shape).Idx → EReal) : ∑ i, f i = ∑ p : Fin a, ∑ q : Fin b, ∑ r : Fin c, f (ix3 p q r) := by
  rw [← Fintype.sum_prod_type', ← Fintype.sum_prod_type']
  refine (Fintype.sum_equiv
    (⟨fun x => ix3 x.1.1 x.1.2 x.2, fun i => ((i 0, i 1), i 2), fun _ => rfl, fun i => (eq_ix3 i).symm⟩ :
      (Fin a × Fin b) × Fin c ≃ (⟨3, ![a, b, c]⟩ : Shape).Idx) _ _ fun _ => rfl).symm

/-- A point's sum of squared differences. -/
theorem point_sum (x y : FVec Ideal S16x224x224 .f32) :
    k0_pay1 (F := Ideal) x y = ∑ p : Fin 16, ∑ q : Fin 224, ∑ r : Fin 224, (x (ix3 p q r) - y (ix3 p q r)) * (x (ix3 p q r) - y (ix3 p q r)) := by
  unfold k0_pay1 extractAt
  rw [shapeCast_self, shapeCast_self]
  refine Eq.trans (b := ∑ i, shapeCast S1x16x224x224 (mulf (subf x y) (subf x y)) shapeCasts_S16x224x224_S1x16x224x224 i) ?_
    ((sum_shapeCast (mulf (subf x y) (subf x y)) _).trans (sum_three _))
  exact Ideal.multiReduction_add_total _ _ _ (by decide) _ _ _

theorem sum_next16 (f : ℕ → EReal) (n : ℕ) :
    (∑ e ∈ Finset.range (16 * n), f e) + ∑ e : Fin 16, f (16 * n + e.val) = ∑ e ∈ Finset.range (16 * (n + 1)), f e := by
  rw [Nat.mul_succ, Finset.sum_range_add, Finset.sum_range (fun e => f (16 * n + e))]

/-- One image's sum of squared differences (nothing past the batch's end). -/
def imageSum (x y : FVec Ideal S192x224x224 .f32) (n : ℕ) : EReal :=
  if h : n < 192 then ∑ q : Fin 224, ∑ r : Fin 224, (x (ix3 ⟨n, h⟩ q r) - y (ix3 ⟨n, h⟩ q r)) * (x (ix3 ⟨n, h⟩ q r) - y (ix3 ⟨n, h⟩ q r)) else 0

variable (V : (c : Dev nD) → (b : Ref sig .tc) → Buf (Elt Ideal) ((c : Thread nD τ).loc b))

theorem blk_sum (c : Dev nD) (t : Fin cfg0.N) :
    k0_pay1 (F := Ideal) (mseBlk V c 0 t) (mseBlk V c 1 t) = ∑ p : Fin 16, imageSum (V c main_v0) (V c main_v1) (16 * t.val + p.val) := by
  refine (point_sum _ _).trans (Finset.sum_congr rfl fun p _ => ?_)
  have ht := point0_lt t
  unfold imageSum
  rw [dif_pos (show 16 * t.val + p.val < 192 by omega)]
  refine Finset.sum_congr rfl fun q _ => Finset.sum_congr rfl fun r _ => ?_
  rw [mseBlk0, mseBlk1]

/-- The accumulator after point `n`. -/
theorem acc_sum (c : Dev nD) (n : ℕ) (h : n < cfg0.N) :
    mseAcc V c n h = ∑ e ∈ Finset.range (16 * (n + 1)), imageSum (V c main_v0) (V c main_v1) e := by
  induction n with
  | zero =>
    rw [← sum_next16, Nat.mul_zero, Finset.range_zero, Finset.sum_empty, zero_add]
    exact blk_sum V c ⟨0, h⟩
  | succ n ih =>
    rw [← sum_next16, ← ih (Nat.lt_of_succ_lt h)]
    exact congrArg (mseAcc V c n (Nat.lt_of_succ_lt h) + ·) (blk_sum V c ⟨n + 1, h⟩)

/-- The whole sum, over the batches as they were before they were flattened. -/
theorem acc_last (c : Dev nD) (h : 11 < cfg0.N) (a b : FVec Ideal S64x3x224x224 .f32)
    (ha : V c main_v0 = shapeCast S192x224x224 a shapeCasts_S64x3x224x224_S192x224x224)
    (hb : V c main_v1 = shapeCast S192x224x224 b shapeCasts_S64x3x224x224_S192x224x224) :
    mseAcc V c 11 h = ∑ i, (a i - b i) * (a i - b i) := by
  rw [acc_sum, ha, hb, show 16 * (11 + 1) = 192 from rfl, Finset.sum_range]
  rw [← sum_shapeCast (t := S192x224x224) (fun i => (a i - b i) * (a i - b i)) shapeCasts_S64x3x224x224_S192x224x224]
  refine Eq.trans (Finset.sum_congr rfl fun n _ => ?_) (sum_three _).symm
  unfold imageSum
  rw [dif_pos n.isLt]
  rfl

/-- The mean squared error. -/
theorem mse_eq (s : EReal) : k0_pay3 (F := Ideal) s = Ideal.div s (Ideal.ofBits .f32 0x4B130000#32) := by
  have h1 : Named.named (F := Ideal) κ "inv_n_pix" (φ := .f32) 0x33DEE95C#32 = ((9633792⁻¹ : ℝ) : EReal) :=
    IdealRules.named_const.ideal_named_scalar _ _ _ _ rfl
  have h2 : Ideal.ofBits .f32 0x4B130000#32 = ((9633792 : ℝ) : EReal) := by
    simp [Ideal.ofBits, Ideal.ieee, -EReal.coe_mul]
  rw [h2, Ideal.div_coe (by norm_num)]
  unfold k0_pay3
  show s * Named.named (F := Ideal) κ "inv_n_pix" (φ := .f32) 0x33DEE95C#32 = _
  rw [h1, one_div]

end Cert.Som
-- ==== Proof.SomValue.lean ====
/-
  The map's part of the loss as the second call computes it: over all of its points its accumulators hold what the
  reference's distances are made of.
-/
module

public import proofs.«01_k».proof.Proof.Reading
public import proofs.«01_k».proof.Proof.RefValue

@[expose] public section

set_option maxRecDepth 16384

noncomputable section

namespace Cert.Som

open Cert.KernelIdeal Cert.KernelIdeal.Gen
open Idealize.ShloMosaic Idealize.ShloMosaic.TcCoe Idealize.ShloMosaic.ValueIdx

/-- A row's place in the batch: which token, and where in it. -/
theorem rows_apply (x : FVec Ideal S64x197x384 .f32) (i : Fin 64) (e : Fin 75264) :
    Ref.rows x (ix2 i e) = x (ix3 i ⟨1 + e.val / 384, by omega⟩ ⟨e.val % 384, by omega⟩) := by
  unfold Ref.rows
  refine (shapeCast_apply _ _ _ (ix3 i (⟨e.val / 384, by omega⟩ : Fin 196) (⟨e.val % 384, by omega⟩ : Fin 384)) ?_).trans
    (extractStridedSlice_apply _ _ _ _ _ fun a => ?_)
  · rw [Shape.rowMajor_val_three, Shape.rowMajor_val_two]
    show (i.val * 196 + e.val / 384) * 384 + e.val % 384 = i.val * 75264 + e.val
    omega
  · match a with
    | ⟨0, _⟩ => exact (Nat.zero_add i.val).symm
    | ⟨1, _⟩ => rfl
    | ⟨2, _⟩ => exact (Nat.zero_add (e.val % 384)).symm

/-- The rows and the units with nothing past their ends. -/
def rowAt (x : FVec Ideal S64x197x384 .f32) (i : Fin 64) (e : ℕ) : EReal := if h : e < 75264 then Ref.rows x (ix2 i ⟨e, h⟩) else 0
def unitAt (w : FVec Ideal S512x75264 .f32) (k : Fin 512) (e : ℕ) : EReal := if h : e < 75264 then w (ix2 k ⟨e, h⟩) else 0

variable (V : (c : Dev nD) → (b : Ref sig .tc) → Buf (Elt Ideal) ((c : Thread nD τ).loc b)) (c : Dev nD)
variable {x : FVec Ideal S64x197x384 .f32} {w : FVec Ideal S512x75264 .f32}

section
variable (hx : V c main_v2 = transpose S197x64x384 [1, 0, 2] x transposes_S64x197x384_S197x64x384_1_0_2) (hw : V c main_arg3 = w)
include hx hw

/-- Every point reads its own places. -/
theorem point_reads (t : Fin cfg1.N) : Reads (rowAt x) (unitAt w) t.val (somIn V c t) where
  rows j i l := by
    have ht := point1_lt t
    have hj := j.isLt
    have hl := l.isLt
    rw [somX_apply, hx]
    unfold rowAt
    rw [dif_pos (show 5376 * t.val + (384 * j.val + l.val) < 75264 by omega), rows_apply]
    refine (transpose_apply _ _ _ _ (ix3 i (⟨1 + 14 * t.val + j.val, by omega⟩ : Fin 197) l) fun b => ?_).trans (congrArg x ?_)
    · match b with
      | ⟨0, _⟩ => rfl
      | ⟨1, _⟩ => rfl
      | ⟨2, _⟩ => rfl
    · funext a
      match a with
      | ⟨0, _⟩ => rfl
      | ⟨1, _⟩ =>
        refine Fin.ext ?_
        show 1 + 14 * t.val + j.val = 1 + (5376 * t.val + (384 * j.val + l.val)) / 384
        omega
      | ⟨2, _⟩ =>
        refine Fin.ext ?_
        show l.val = (5376 * t.val + (384 * j.val + l.val)) % 384
        omega
  lo k e := by
    have ht := point1_lt t
    have he := e.isLt
    rw [somW0_apply, hw]
    unfold unitAt
    rw [dif_pos (show 5376 * t.val + e.val < 75264 by omega)]
  hi k e := by
    have ht := point1_lt t
    have he := e.isLt
    rw [somW1_apply, hw]
    unfold unitAt
    rw [dif_pos (show 5376 * t.val + e.val < 75264 by omega)]

/-- The accumulators after point `n`. -/
theorem point_sums (n : ℕ) (h : n < cfg1.N) : Sums (rowAt x) (unitAt w) (5376 * (n + 1)) (somAt V c n h) := by
  induction n with
  | zero => exact sums_init (point_reads V c hx hw ⟨0, h⟩)
  | succ n ih => exact sums_next (point_reads V c hx hw ⟨n + 1, h⟩) (ih (Nat.lt_of_succ_lt h))

omit hx hw in
theorem sum_whole (f : ℕ → EReal) (g : Fin 75264 → EReal) (h : ∀ e : Fin 75264, f e.val = g e) :
    ∑ e ∈ Finset.range (5376 * (13 + 1)), f e = ∑ e, g e := by
  rw [show 5376 * (13 + 1) = 75264 from rfl, Finset.sum_range]
  exact Finset.sum_congr rfl fun e _ => h e

/-- The distances are the reference's. -/
theorem dists_same (i : Fin 64) (k : Fin 512) :
    k1_pay13 (F := Ideal) (somAt V c 13 last_lt).sy (somAt V c 13 last_lt).sx (somAt V c 13 last_lt).g (ix2 i k) = Ref.dists x w (ix2 i k) := by
  have hs := point_sums V c hx hw 13 last_lt
  have hX : ∀ e : Fin 75264, rowAt x i e.val = Ref.rows x (ix2 i e) := fun e => dif_pos e.isLt
  have hY : ∀ e : Fin 75264, unitAt w k e.val = w (ix2 k e) := fun e => dif_pos e.isLt
  rw [dist_apply, Ref.dists_eq, hs.g, hs.sx, hs.sy,
    sum_whole _ (fun e => Ref.rows x (ix2 i e) * w (ix2 k e)) (fun e => by rw [hX, hY]),
    sum_whole _ (fun e => Ref.rows x (ix2 i e) * Ref.rows x (ix2 i e)) (fun e => by rw [hX]),
    sum_whole _ (fun e => w (ix2 k e) * w (ix2 k e)) (fun e => by rw [hY])]
  unfold norm
  rfl

/-- So the map's part of the loss is. -/
theorem som_same (gc : FVec Ideal S512x2 .f32) (hgc : RealGrid gc) (sg : FVec Ideal S_ .f32) (j : S_.Idx) :
    somLs (F := Ideal) gc (sg ix0) (somAt V c 13 last_lt) = Ref.lossSom gc sg (Ref.dists x w) j := by
  obtain ⟨p, hp⟩ : ∃ p : Fin 64 → Fin 512, ∀ i, IsFirst (fun k => Ref.dists x w (ix2 i k)) (p i) :=
    ⟨fun i => (exists_first fun k : Fin 512 => Ref.dists x w (ix2 i k)).choose,
      fun i => (exists_first fun k : Fin 512 => Ref.dists x w (ix2 i k)).choose_spec⟩
  have hd := dists_same V c hx hw
  rw [Ref.lossSom_eq gc sg _ p hp, somLs_eq gc hgc _ _ p fun i => by simpa only [hd] using hp i]
  simp only [hd]

end

end Cert.Som
-- ==== Proof.Final.lean ====
/-
  The kernel's three results are the reference's, when the units' coordinates are finite.
-/
module

public import proofs.«01_k».proof.Proof.MseValue
public import proofs.«01_k».proof.Proof.SomValue
public import proofs.«01_k».proof.Pre_coords_finite

@[expose] public section

set_option maxRecDepth 16384

noncomputable section

namespace Cert.Som

open Cert.KernelIdeal Cert.KernelIdeal.Gen
open Idealize.ShloMosaic Idealize.ShloMosaic.TcCoe Idealize.ShloMosaic.ValueIdx Idealize.ShloMosaic.StableHlo

/-- Coordinates below infinity in magnitude are real. -/
theorem real_grid [Cert.Pre_coords_finite.Facts] (a0 a1 : FVec Ideal S64x3x224x224 .f32) (a2 : FVec Ideal S64x197x384 .f32)
    (a3 : FVec Ideal S512x75264 .f32) (gc : FVec Ideal S512x2 .f32) (a5 a6 : FVec Ideal S_ .f32)
    (h : Cert.Pre_coords_finite.fn (F := Ideal) a0 a1 a2 a3 gc a5 a6 = fun _ => 1#1) : RealGrid gc := by
  have real : ∀ j, ∃ r : ℝ, gc j = r := fun j => by
    have hj : Ideal.cmp .olt (max (gc j) (-(gc j))) (Ideal.ofBits .f32 0x7F800000#32) = 1#1 := congrFun h j
    rw [ofBits_inf] at hj
    generalize gc j = v at hj
    induction v using EReal.rec with
    | bot => simp [Ideal.cmp] at hj
    | coe r => exact ⟨r, rfl⟩
    | top => simp [Ideal.cmp] at hj
  exact fun k => ⟨fun c => (real (ix2 k c)).choose, funext fun c => (real (ix2 k c)).choose_spec⟩

section Host

variable (W : Valuation τ sig (Elt Ideal))

/-- What the reshapes and the transpose ahead of the calls leave, -/
theorem host0_v0 : after hostOps0 W (Proc.devRef .tc main_v0) = shapeCast S192x224x224 (W (Proc.devRef .tc main_arg0)) shapeCasts_S64x3x224x224_S192x224x224 := by
  after_results_simp <;> rfl
theorem host0_v1 : after hostOps0 W (Proc.devRef .tc main_v1) = shapeCast S192x224x224 (W (Proc.devRef .tc main_arg1)) shapeCasts_S64x3x224x224_S192x224x224 := by
  after_results_simp <;> rfl
theorem host0_v2 : after hostOps0 W (Proc.devRef .tc main_v2) = transpose S197x64x384 [1, 0, 2] (W (Proc.devRef .tc main_arg2)) transposes_S64x197x384_S197x64x384_1_0_2 := by
  after_results_simp <;> rfl
theorem host0_v3 : after hostOps0 W (Proc.devRef .tc main_v3) = shapeCast S1 (W (Proc.devRef .tc main_arg5)) shapeCasts_S_S1 := by
  after_results_simp <;> rfl
theorem host0_v4 : after hostOps0 W (Proc.devRef .tc main_v4) = shapeCast S1 (W (Proc.devRef .tc main_arg6)) shapeCasts_S_S1 := by
  after_results_simp <;> rfl
/-- and those behind them. -/
theorem host2_v7 : after hostOps2 W (Proc.devRef .tc main_v7) = shapeCast S_ (W (Proc.devRef .tc main_v6_0)) shapeCasts_S1_S_ := by
  after_results_simp <;> rfl
theorem host2_v8 : after hostOps2 W (Proc.devRef .tc main_v8) = shapeCast S_ (W (Proc.devRef .tc main_v6_1)) shapeCasts_S1_S_ := by
  after_results_simp <;> rfl
theorem host2_v9 : after hostOps2 W (Proc.devRef .tc main_v9) = shapeCast S_ (W (Proc.devRef .tc main_v6_2)) shapeCasts_S1_S_ := by
  after_results_simp <;> rfl

end Host

section Run

variable (m : (ℓ : Loc nD τ sig) → Buf (Elt Ideal) ℓ) (ρ : Dev nD → PrngReg) (c : Dev nD)

/-- The arguments. -/
abbrev A0 : FVec Ideal S64x3x224x224 .f32 := m ((c : Thread nD τ).loc main_arg0)
abbrev A1 : FVec Ideal S64x3x224x224 .f32 := m ((c : Thread nD τ).loc main_arg1)
abbrev A2 : FVec Ideal S64x197x384 .f32 := m ((c : Thread nD τ).loc main_arg2)
abbrev A3 : FVec Ideal S512x75264 .f32 := m ((c : Thread nD τ).loc main_arg3)
abbrev A4 : FVec Ideal S512x2 .f32 := m ((c : Thread nD τ).loc main_arg4)
abbrev A5 : FVec Ideal S_ .f32 := m ((c : Thread nD τ).loc main_arg5)
abbrev A6 : FVec Ideal S_ .f32 := m ((c : Thread nD τ).loc main_arg6)

/-- A number that was made a one-element vector. -/
theorem one_apply (v : FVec Ideal S_ .f32) : shapeCast S1 v shapeCasts_S_S1 (ix1 0) = v ix0 :=
  congrArg v (funext fun a => a.elim0)

/-- What the second call finds of the first one's result, -/
theorem nn_there (j : S_.Idx) : C2 m ρ c main_v5 (ix1 0) = Ref.lossNn (A0 m c) (A1 m c) j := by
  rw [Ref.lossNn_eq, ← mse_eq, ← acc_last (C1 m ρ) c (by decide +kernel) (A0 m c) (A1 m c) (host0_v0 _) (host0_v1 _)]
  exact congrFun ((B2_arr m ρ c 2).trans (mse_result (C1 m ρ) c)) (ix1 0)

/-- of the two numbers, -/
theorem sig_there : C2 m ρ c main_v3 (ix1 0) = A5 m c ix0 :=
  (congrFun ((B2_keep m ρ c main_v3 (by decide +kernel)).trans (host0_v3 _)) (ix1 0)).trans (one_apply _)
theorem lam_there : C2 m ρ c main_v4 (ix1 0) = A6 m c ix0 :=
  (congrFun ((B2_keep m ρ c main_v4 (by decide +kernel)).trans (host0_v4 _)) (ix1 0)).trans (one_apply _)

/-- and of the rows and the units. -/
theorem rows_there : C2 m ρ c main_v2 = transpose S197x64x384 [1, 0, 2] (A2 m c) transposes_S64x197x384_S197x64x384_1_0_2 :=
  (B2_keep m ρ c main_v2 (by decide +kernel)).trans (host0_v2 _)
theorem units_there : C2 m ρ c main_arg3 = A3 m c := B2_arg m ρ c main_arg3 (by decide)
theorem coords_there : C2 m ρ c main_arg4 = A4 m c := B2_arg m ρ c main_arg4 (by decide)

/-- The reference's results, of the kernel's arguments. -/
abbrev lnOf : FVec Ideal S_ .f32 := Ref.lossNn (A0 m c) (A1 m c)
abbrev lsOf : FVec Ideal S_ .f32 := Ref.lossSom (A4 m c) (A5 m c) (Ref.dists (A2 m c) (A3 m c))
abbrev ltOf : FVec Ideal S_ .f32 := Ref.lossAll (A6 m c) (lsOf m c) (lnOf m c)

theorem ls_there (hgc : RealGrid (A4 m c)) (j : S_.Idx) :
    somLs (F := Ideal) (somIn (C2 m ρ) c ⟨13, last_lt⟩).gc (only (somIn (C2 m ρ) c ⟨13, last_lt⟩).sig) (somAt (C2 m ρ) c 13 last_lt) = lsOf m c j := by
  rw [somGc_eq, somSig_eq, coords_there, sig_there]
  exact som_same (C2 m ρ) c (rows_there m ρ c) (units_there m ρ c) (A4 m c) hgc (A5 m c) j

/-- The kernel's results at the end. -/
theorem ln_end : B4 m ρ c (Proc.devRef .tc main_v8) = lnOf m c := by
  refine (host2_v8 _).trans ?_
  rw [show B3 m ρ c (Proc.devRef .tc main_v6_1) = (somRes (C2 m ρ) c ⟨13, last_lt⟩).ln from (B3_arr m ρ c 21).trans (som_ln (C2 m ρ) c)]
  funext j
  exact (somLnn_eq (C2 m ρ) c ⟨13, last_lt⟩).trans (nn_there m ρ c j)
theorem ls_end (hgc : RealGrid (A4 m c)) : B4 m ρ c (Proc.devRef .tc main_v9) = lsOf m c := by
  refine (host2_v9 _).trans ?_
  rw [show B3 m ρ c (Proc.devRef .tc main_v6_2) = (somRes (C2 m ρ) c ⟨13, last_lt⟩).ls from (B3_arr m ρ c 22).trans (som_ls (C2 m ρ) c)]
  funext j
  exact ls_there m ρ c hgc j
theorem lt_end (hgc : RealGrid (A4 m c)) : B4 m ρ c (Proc.devRef .tc main_v7) = ltOf m c := by
  refine (host2_v7 _).trans ?_
  rw [show B3 m ρ c (Proc.devRef .tc main_v6_0) = (somRes (C2 m ρ) c ⟨13, last_lt⟩).lt from (B3_arr m ρ c 20).trans (som_lt (C2 m ρ) c)]
  funext j
  show only (somIn (C2 m ρ) c ⟨13, last_lt⟩).lam * somLs (F := Ideal) _ _ _ + only (somIn (C2 m ρ) c ⟨13, last_lt⟩).lnn = A6 m c j * lsOf m c j + lnOf m c j
  rw [somLam_eq, somLnn_eq, lam_there, nn_there m ρ c j, eq_ix0 j]
  exact congrArg (fun z => A6 m c ix0 * z + lnOf m c ix0) (ls_there m ρ c hgc ix0)

end Run

end Cert.Som
-- ==== Proof.lean ====
/- The claims about the self-organising-map loss, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.Ref
public import proofs.«01_k».proof.Proof.Final
public import Idealize.ShloMosaic.Lib.Quiescent

@[expose] public section

noncomputable section

namespace Cert.Proof

open Idealize.ShloMosaic Idealize.ShloMosaic.TcCoe Idealize.SL.Sem

/-- The precondition's side conditions. -/
theorem pre_facts : Cert.Pre_coords_finite.Facts := ⟨by decide⟩

section Frames
attribute [local instance] Cert.Kernel.Gen.facts Cert.KernelIdeal.Gen.facts Cert.ReferenceIdeal.Gen.facts pre_facts

/-- The kernel's program runs, its arguments unchanged. -/
theorem frame_Kernel : quiescent_Kernel := fun m g _ =>
  of_eq_true (congrFun (congrFun Cert.Som.kernel_frame m) g)

/-- So does its idealization, -/
theorem frame_KernelIdeal : quiescent_KernelIdeal := fun m g _ => Cert.Som.unchanged m g

/-- and the reference. -/
theorem frame_ReferenceIdeal : quiescent_ReferenceIdeal := fun m g _ =>
  (θ_run _ _ _).mono (fun r h =>
    ⟨fun c => ⟨(h c _).trans (Cert.Som.Ref.arg0 _), (h c _).trans (Cert.Som.Ref.arg1 _), (h c _).trans (Cert.Som.Ref.arg2 _),
      (h c _).trans (Cert.Som.Ref.arg3 _), (h c _).trans (Cert.Som.Ref.arg4 _), (h c _).trans (Cert.Som.Ref.arg5 _),
      (h c _).trans (Cert.Som.Ref.arg6 _)⟩,
    sem_eq_zero_of_no_sems (by decide) _⟩) (Cert.Som.Ref.run m g)

/-- The one named constant is the reciprocal of the number of pixels. -/
theorem names : preserves_Kernel_KernelIdeal :=
  IdealRules.named_const.statement Cert.KernelIdeal.κ "inv_n_pix" .f32 0x33DEE95C#32 ((9633792⁻¹ : ℝ) : EReal) rfl

/-- With finite coordinates the kernel's results are the reference's. -/
theorem same_results : algebraic_KernelIdeal_ReferenceIdeal_pre_coords_finite := fun m g m' g' hpre hargs => by
  have hgc : ∀ c, Cert.Som.RealGrid (Cert.Som.A4 m c) := fun c => Cert.Som.real_grid _ _ _ _ _ _ _ (hpre c)
  refine ⟨fun c => Cert.Som.ltOf m c, fun c => Cert.Som.lnOf m c, fun c => Cert.Som.lsOf m c,
    (θ_run _ _ _).mono (fun r h c => ?_) (Cert.Som.run m g), (θ_run _ _ _).mono (fun r h c => ?_) (Cert.Som.Ref.run m' g')⟩
  · exact ⟨(h.1 c _ (Cert.Som.mem_ucRefs Cert.KernelIdeal.main_v7 (by decide))).trans (Cert.Som.lt_end m g c (hgc c)),
      (h.1 c _ (Cert.Som.mem_ucRefs Cert.KernelIdeal.main_v8 (by decide))).trans (Cert.Som.ln_end m g c),
      (h.1 c _ (Cert.Som.mem_ucRefs Cert.KernelIdeal.main_v9 (by decide))).trans (Cert.Som.ls_end m g c (hgc c)),
      (h.1 c _ (Cert.Som.mem_ucRefs Cert.KernelIdeal.main_arg0 (by decide))).trans (Cert.Som.B4_arg m g c Cert.KernelIdeal.main_arg0 (by decide)),
      (h.1 c _ (Cert.Som.mem_ucRefs Cert.KernelIdeal.main_arg1 (by decide))).trans (Cert.Som.B4_arg m g c Cert.KernelIdeal.main_arg1 (by decide)),
      (h.1 c _ (Cert.Som.mem_ucRefs Cert.KernelIdeal.main_arg2 (by decide))).trans (Cert.Som.B4_arg m g c Cert.KernelIdeal.main_arg2 (by decide)),
      (h.1 c _ (Cert.Som.mem_ucRefs Cert.KernelIdeal.main_arg3 (by decide))).trans (Cert.Som.B4_arg m g c Cert.KernelIdeal.main_arg3 (by decide)),
      (h.1 c _ (Cert.Som.mem_ucRefs Cert.KernelIdeal.main_arg4 (by decide))).trans (Cert.Som.B4_arg m g c Cert.KernelIdeal.main_arg4 (by decide)),
      (h.1 c _ (Cert.Som.mem_ucRefs Cert.KernelIdeal.main_arg5 (by decide))).trans (Cert.Som.B4_arg m g c Cert.KernelIdeal.main_arg5 (by decide)),
      (h.1 c _ (Cert.Som.mem_ucRefs Cert.KernelIdeal.main_arg6 (by decide))).trans (Cert.Som.B4_arg m g c Cert.KernelIdeal.main_arg6 (by decide))⟩
  · obtain ⟨e0, e1, e2, e3, e4, e5, e6⟩ := hargs c
    refine ⟨(h c _).trans ((Cert.Som.Ref.all_eq _).trans ?_), (h c _).trans ((Cert.Som.Ref.nn_eq _).trans ?_),
      (h c _).trans ((Cert.Som.Ref.som_eq _).trans ?_), (h c _).trans (Cert.Som.Ref.arg0 _), (h c _).trans (Cert.Som.Ref.arg1 _),
      (h c _).trans (Cert.Som.Ref.arg2 _), (h c _).trans (Cert.Som.Ref.arg3 _), (h c _).trans (Cert.Som.Ref.arg4 _),
      (h c _).trans (Cert.Som.Ref.arg5 _), (h c _).trans (Cert.Som.Ref.arg6 _)⟩
    · exact congr (congr (congrArg Cert.Som.Ref.lossAll e6)
        (congr (congr (congrArg Cert.Som.Ref.lossSom e4) e5) (congr (congrArg Cert.Som.Ref.dists e2) e3)))
        (congr (congrArg Cert.Som.Ref.lossNn e0) e1)
    · exact congr (congrArg Cert.Som.Ref.lossNn e0) e1
    · exact congr (congr (congrArg Cert.Som.Ref.lossSom e4) e5) (congr (congrArg Cert.Som.Ref.dists e2) e3)

end Frames

theorem claim : Cert.Claim :=
  ⟨Cert.Kernel.Gen.facts, Cert.KernelIdeal.Gen.facts, Cert.ReferenceIdeal.Gen.facts, pre_facts, frame_Kernel, frame_KernelIdeal,
    fun m g _ => frame_KernelIdeal m g trivial, frame_ReferenceIdeal, fun m g _ => frame_ReferenceIdeal m g trivial, names, same_results⟩

end Cert.Proof

end
